-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![8192, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 512]⟩ ⟨2, ![8192, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S8192x512 : Shape := ⟨2, ![8192, 512]⟩
abbrev S2x512x2048 : Shape := ⟨3, ![2, 512, 2048]⟩
abbrev S2 : Shape := ⟨1, ![2]⟩
abbrev S3x4 : Shape := ⟨2, ![3, 4]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x1 : Shape := ⟨2, ![1, 1]⟩
abbrev S512x512 : Shape := ⟨2, ![512, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S8192x512, .bf16⟩
  | .local _ .vmem, ⟨0, _⟩ => ⟨S8192x512, .bf16⟩
  | .local _ .vmem, ⟨1, _⟩ => ⟨S2x512x2048, .bf16⟩
  | .local _ .vmem, ⟨2, _⟩ => ⟨S2048x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_off1 (d0 : Dev nD) (c0_i32_66 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32 : BitVec 32 := 2048#32
  let v93 : BitVec 32 := Scalar.muli v5 c2048_i32
  let v94 : BitVec 32 := Scalar.addi v93 c0_i32_66
  let c0_i32_75 : BitVec 32 := 0#32
  ![v94.toNat, 0]
def k0_off2 (d0 : Dev nD) (c1_i32_58 : BitVec 32) : Fin 2 → Nat :=
  let c0_i32_76 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v81 : BitVec 32 := Scalar.addi v5 c1_i32_58
  let c4_i32_59 : BitVec 32 := 4#32
  let c0_i32_60 : BitVec 32 := 0#32
  let v82 : BitVec 1 := Scalar.cmpi .eq c4_i32_59 c0_i32_60
  let c1_i32_61 : BitVec 32 := 1#32
  let v83 : BitVec 32 := Scalar.select v82 c1_i32_61 c4_i32_59
  let v84 : BitVec 32 := Scalar.remsi v81 v83
  let c0_i32_63 : BitVec 32 := 0#32
  let v86 : BitVec 1 := Scalar.cmpi .slt v84 c0_i32_63
  let c0_i32_64 : BitVec 32 := 0#32
  let v87 : BitVec 1 := Scalar.cmpi .slt v83 c0_i32_64
  let v88 : BitVec 1 := Scalar.xori v86 v87
  let c0_i32_62 : BitVec 32 := 0#32
  let v85 : BitVec 1 := Scalar.cmpi .ne v84 c0_i32_62
  let v89 : BitVec 1 := Scalar.andi v88 v85
  let v90 : BitVec 32 := Scalar.addi v84 v83
  let v91 : BitVec 32 := Scalar.select v89 v90 v84
  let c512_i32_65 : BitVec 32 := 512#32
  let v92 : BitVec 32 := Scalar.muli v91 c512_i32_65
  ![0, v92.toNat]
def k0_dev4 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v95 : BitVec 32 := Scalar.muli v2 c16_i32_71
  let v96 : BitVec 32 := Scalar.addi c0_i32_72 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_58 : BitVec 32 := 1#32
  let v81 : BitVec 32 := Scalar.addi v5 c1_i32_58
  let c4_i32_59 : BitVec 32 := 4#32
  let c0_i32_60 : BitVec 32 := 0#32
  let v82 : BitVec 1 := Scalar.cmpi .eq c4_i32_59 c0_i32_60
  let c1_i32_61 : BitVec 32 := 1#32
  let v83 : BitVec 32 := Scalar.select v82 c1_i32_61 c4_i32_59
  let v84 : BitVec 32 := Scalar.remsi v81 v83
  let c0_i32_63 : BitVec 32 := 0#32
  let v86 : BitVec 1 := Scalar.cmpi .slt v84 c0_i32_63
  let c0_i32_64 : BitVec 32 := 0#32
  let v87 : BitVec 1 := Scalar.cmpi .slt v83 c0_i32_64
  let v88 : BitVec 1 := Scalar.xori v86 v87
  let c0_i32_62 : BitVec 32 := 0#32
  let v85 : BitVec 1 := Scalar.cmpi .ne v84 c0_i32_62
  let v89 : BitVec 1 := Scalar.andi v88 v85
  let v90 : BitVec 32 := Scalar.addi v84 v83
  let v91 : BitVec 32 := Scalar.select v89 v90 v84
  let c4_i32_73 : BitVec 32 := 4#32
  let v97 : BitVec 32 := Scalar.muli v91 c4_i32_73
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v99 : BitVec 32 := Scalar.muli v8 c1_i32_74
  let v100 : BitVec 32 := Scalar.addi v98 v99
  v100.toNat
def k0_dev5 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v121 : BitVec 32 := Scalar.muli v2 c16_i32_91
  let v122 : BitVec 32 := Scalar.addi c0_i32_92 v121
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_77 : BitVec 32 := 2#32
  let v107 : BitVec 32 := Scalar.addi v5 c2_i32_77
  let c4_i32_78 : BitVec 32 := 4#32
  let c0_i32_79 : BitVec 32 := 0#32
  let v108 : BitVec 1 := Scalar.cmpi .eq c4_i32_78 c0_i32_79
  let c1_i32_80 : BitVec 32 := 1#32
  let v109 : BitVec 32 := Scalar.select v108 c1_i32_80 c4_i32_78
  let v110 : BitVec 32 := Scalar.remsi v107 v109
  let c0_i32_82 : BitVec 32 := 0#32
  let v112 : BitVec 1 := Scalar.cmpi .slt v110 c0_i32_82
  let c0_i32_83 : BitVec 32 := 0#32
  let v113 : BitVec 1 := Scalar.cmpi .slt v109 c0_i32_83
  let v114 : BitVec 1 := Scalar.xori v112 v113
  let c0_i32_81 : BitVec 32 := 0#32
  let v111 : BitVec 1 := Scalar.cmpi .ne v110 c0_i32_81
  let v115 : BitVec 1 := Scalar.andi v114 v111
  let v116 : BitVec 32 := Scalar.addi v110 v109
  let v117 : BitVec 32 := Scalar.select v115 v116 v110
  let c4_i32_93 : BitVec 32 := 4#32
  let v123 : BitVec 32 := Scalar.muli v117 c4_i32_93
  let v124 : BitVec 32 := Scalar.addi v122 v123
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v125 : BitVec 32 := Scalar.muli v8 c1_i32_94
  let v126 : BitVec 32 := Scalar.addi v124 v125
  v126.toNat
def k0_dev6 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v147 : BitVec 32 := Scalar.muli v2 c16_i32_111
  let v148 : BitVec 32 := Scalar.addi c0_i32_112 v147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_97 : BitVec 32 := 3#32
  let v133 : BitVec 32 := Scalar.addi v5 c3_i32_97
  let c4_i32_98 : BitVec 32 := 4#32
  let c0_i32_99 : BitVec 32 := 0#32
  let v134 : BitVec 1 := Scalar.cmpi .eq c4_i32_98 c0_i32_99
  let c1_i32_100 : BitVec 32 := 1#32
  let v135 : BitVec 32 := Scalar.select v134 c1_i32_100 c4_i32_98
  let v136 : BitVec 32 := Scalar.remsi v133 v135
  let c0_i32_102 : BitVec 32 := 0#32
  let v138 : BitVec 1 := Scalar.cmpi .slt v136 c0_i32_102
  let c0_i32_103 : BitVec 32 := 0#32
  let v139 : BitVec 1 := Scalar.cmpi .slt v135 c0_i32_103
  let v140 : BitVec 1 := Scalar.xori v138 v139
  let c0_i32_101 : BitVec 32 := 0#32
  let v137 : BitVec 1 := Scalar.cmpi .ne v136 c0_i32_101
  let v141 : BitVec 1 := Scalar.andi v140 v137
  let v142 : BitVec 32 := Scalar.addi v136 v135
  let v143 : BitVec 32 := Scalar.select v141 v142 v136
  let c4_i32_113 : BitVec 32 := 4#32
  let v149 : BitVec 32 := Scalar.muli v143 c4_i32_113
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v151 : BitVec 32 := Scalar.muli v8 c1_i32_114
  let v152 : BitVec 32 := Scalar.addi v150 v151
  v152.toNat
def k0_off3 (d0 : Dev nD) : Fin 2 → Nat :=
  let c0_118 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_117 : BitVec 32 := 512#32
  let v159 : BitVec 32 := Scalar.muli v5 c512_i32_117
  let v160 : Index := Scalar.indexCast v159
  ![0, v160.toNat]
def k0_off4 (d0 : Dev nD) (c0_i32_120 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2048_i32_119 : BitVec 32 := 2048#32
  let v162 : BitVec 32 := Scalar.muli v5 c2048_i32_119
  let v163 : BitVec 32 := Scalar.addi v162 c0_i32_120
  let v164 : Index := Scalar.indexCast v163
  let c0_121 : Index := 0#32
  ![v164.toNat, 0]
def k0_off5 (d0 : Dev nD) (c1_i32_136 : BitVec 32) : Fin 2 → Nat :=
  let c512_i32_155 : BitVec 32 := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v181 : BitVec 32 := Scalar.addi v5 c1_i32_136
  let c4_i32_137 : BitVec 32 := 4#32
  let c0_i32_138 : BitVec 32 := 0#32
  let v182 : BitVec 1 := Scalar.cmpi .eq c4_i32_137 c0_i32_138
  let c1_i32_139 : BitVec 32 := 1#32
  let v183 : BitVec 32 := Scalar.select v182 c1_i32_139 c4_i32_137
  let v184 : BitVec 32 := Scalar.remsi v181 v183
  let c0_i32_141 : BitVec 32 := 0#32
  let v186 : BitVec 1 := Scalar.cmpi .slt v184 c0_i32_141
  let c0_i32_142 : BitVec 32 := 0#32
  let v187 : BitVec 1 := Scalar.cmpi .slt v183 c0_i32_142
  let v188 : BitVec 1 := Scalar.xori v186 v187
  let c0_i32_140 : BitVec 32 := 0#32
  let v185 : BitVec 1 := Scalar.cmpi .ne v184 c0_i32_140
  let v189 : BitVec 1 := Scalar.andi v188 v185
  let v190 : BitVec 32 := Scalar.addi v184 v183
  let v191 : BitVec 32 := Scalar.select v189 v190 v184
  let c512_i32_143 : BitVec 32 := 512#32
  let v192 : BitVec 32 := Scalar.muli v191 c512_i32_143
  ![512, v192.toNat]
def k0_dev7 (d0 : Dev nD) : Nat :=
  let c0_i32_151 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_150 : BitVec 32 := 16#32
  let v195 : BitVec 32 := Scalar.muli v2 c16_i32_150
  let v196 : BitVec 32 := Scalar.addi c0_i32_151 v195
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_136 : BitVec 32 := 1#32
  let v181 : BitVec 32 := Scalar.addi v5 c1_i32_136
  let c4_i32_137 : BitVec 32 := 4#32
  let c0_i32_138 : BitVec 32 := 0#32
  let v182 : BitVec 1 := Scalar.cmpi .eq c4_i32_137 c0_i32_138
  let c1_i32_139 : BitVec 32 := 1#32
  let v183 : BitVec 32 := Scalar.select v182 c1_i32_139 c4_i32_137
  let v184 : BitVec 32 := Scalar.remsi v181 v183
  let c0_i32_141 : BitVec 32 := 0#32
  let v186 : BitVec 1 := Scalar.cmpi .slt v184 c0_i32_141
  let c0_i32_142 : BitVec 32 := 0#32
  let v187 : BitVec 1 := Scalar.cmpi .slt v183 c0_i32_142
  let v188 : BitVec 1 := Scalar.xori v186 v187
  let c0_i32_140 : BitVec 32 := 0#32
  let v185 : BitVec 1 := Scalar.cmpi .ne v184 c0_i32_140
  let v189 : BitVec 1 := Scalar.andi v188 v185
  let v190 : BitVec 32 := Scalar.addi v184 v183
  let v191 : BitVec 32 := Scalar.select v189 v190 v184
  let c4_i32_152 : BitVec 32 := 4#32
  let v197 : BitVec 32 := Scalar.muli v191 c4_i32_152
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v199 : BitVec 32 := Scalar.muli v8 c1_i32_153
  let v200 : BitVec 32 := Scalar.addi v198 v199
  v200.toNat
def k0_dev8 (d0 : Dev nD) : Nat :=
  let c0_i32_171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_170 : BitVec 32 := 16#32
  let v221 : BitVec 32 := Scalar.muli v2 c16_i32_170
  let v222 : BitVec 32 := Scalar.addi c0_i32_171 v221
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_156 : BitVec 32 := 2#32
  let v207 : BitVec 32 := Scalar.addi v5 c2_i32_156
  let c4_i32_157 : BitVec 32 := 4#32
  let c0_i32_158 : BitVec 32 := 0#32
  let v208 : BitVec 1 := Scalar.cmpi .eq c4_i32_157 c0_i32_158
  let c1_i32_159 : BitVec 32 := 1#32
  let v209 : BitVec 32 := Scalar.select v208 c1_i32_159 c4_i32_157
  let v210 : BitVec 32 := Scalar.remsi v207 v209
  let c0_i32_161 : BitVec 32 := 0#32
  let v212 : BitVec 1 := Scalar.cmpi .slt v210 c0_i32_161
  let c0_i32_162 : BitVec 32 := 0#32
  let v213 : BitVec 1 := Scalar.cmpi .slt v209 c0_i32_162
  let v214 : BitVec 1 := Scalar.xori v212 v213
  let c0_i32_160 : BitVec 32 := 0#32
  let v211 : BitVec 1 := Scalar.cmpi .ne v210 c0_i32_160
  let v215 : BitVec 1 := Scalar.andi v214 v211
  let v216 : BitVec 32 := Scalar.addi v210 v209
  let v217 : BitVec 32 := Scalar.select v215 v216 v210
  let c4_i32_172 : BitVec 32 := 4#32
  let v223 : BitVec 32 := Scalar.muli v217 c4_i32_172
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v225 : BitVec 32 := Scalar.muli v8 c1_i32_173
  let v226 : BitVec 32 := Scalar.addi v224 v225
  v226.toNat
def k0_dev9 (d0 : Dev nD) : Nat :=
  let c0_i32_191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_190 : BitVec 32 := 16#32
  let v247 : BitVec 32 := Scalar.muli v2 c16_i32_190
  let v248 : BitVec 32 := Scalar.addi c0_i32_191 v247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_176 : BitVec 32 := 3#32
  let v233 : BitVec 32 := Scalar.addi v5 c3_i32_176
  let c4_i32_177 : BitVec 32 := 4#32
  let c0_i32_178 : BitVec 32 := 0#32
  let v234 : BitVec 1 := Scalar.cmpi .eq c4_i32_177 c0_i32_178
  let c1_i32_179 : BitVec 32 := 1#32
  let v235 : BitVec 32 := Scalar.select v234 c1_i32_179 c4_i32_177
  let v236 : BitVec 32 := Scalar.remsi v233 v235
  let c0_i32_181 : BitVec 32 := 0#32
  let v238 : BitVec 1 := Scalar.cmpi .slt v236 c0_i32_181
  let c0_i32_182 : BitVec 32 := 0#32
  let v239 : BitVec 1 := Scalar.cmpi .slt v235 c0_i32_182
  let v240 : BitVec 1 := Scalar.xori v238 v239
  let c0_i32_180 : BitVec 32 := 0#32
  let v237 : BitVec 1 := Scalar.cmpi .ne v236 c0_i32_180
  let v241 : BitVec 1 := Scalar.andi v240 v237
  let v242 : BitVec 32 := Scalar.addi v236 v235
  let v243 : BitVec 32 := Scalar.select v241 v242 v236
  let c4_i32_192 : BitVec 32 := 4#32
  let v249 : BitVec 32 := Scalar.muli v243 c4_i32_192
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v251 : BitVec 32 := Scalar.muli v8 c1_i32_193
  let v252 : BitVec 32 := Scalar.addi v250 v251
  v252.toNat
def k0_off6 (d0 : Dev nD) : Fin 2 → Nat :=
  let c512_197 : Index := 512#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_196 : BitVec 32 := 512#32
  let v259 : BitVec 32 := Scalar.muli v5 c512_i32_196
  let v260 : Index := Scalar.indexCast v259
  ![512, v260.toNat]
def k0_off7 (d0 : Dev nD) (c1_i32_216 : BitVec 32) : Fin 2 → Nat :=
  let c1024_i32_235 : BitVec 32 := 1024#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v281 : BitVec 32 := Scalar.addi v5 c1_i32_216
  let c4_i32_217 : BitVec 32 := 4#32
  let c0_i32_218 : BitVec 32 := 0#32
  let v282 : BitVec 1 := Scalar.cmpi .eq c4_i32_217 c0_i32_218
  let c1_i32_219 : BitVec 32 := 1#32
  let v283 : BitVec 32 := Scalar.select v282 c1_i32_219 c4_i32_217
  let v284 : BitVec 32 := Scalar.remsi v281 v283
  let c0_i32_221 : BitVec 32 := 0#32
  let v286 : BitVec 1 := Scalar.cmpi .slt v284 c0_i32_221
  let c0_i32_222 : BitVec 32 := 0#32
  let v287 : BitVec 1 := Scalar.cmpi .slt v283 c0_i32_222
  let v288 : BitVec 1 := Scalar.xori v286 v287
  let c0_i32_220 : BitVec 32 := 0#32
  let v285 : BitVec 1 := Scalar.cmpi .ne v284 c0_i32_220
  let v289 : BitVec 1 := Scalar.andi v288 v285
  let v290 : BitVec 32 := Scalar.addi v284 v283
  let v291 : BitVec 32 := Scalar.select v289 v290 v284
  let c512_i32_223 : BitVec 32 := 512#32
  let v292 : BitVec 32 := Scalar.muli v291 c512_i32_223
  ![1024, v292.toNat]
def k0_dev10 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v295 : BitVec 32 := Scalar.muli v2 c16_i32_230
  let v296 : BitVec 32 := Scalar.addi c0_i32_231 v295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_216 : BitVec 32 := 1#32
  let v281 : BitVec 32 := Scalar.addi v5 c1_i32_216
  let c4_i32_217 : BitVec 32 := 4#32
  let c0_i32_218 : BitVec 32 := 0#32
  let v282 : BitVec 1 := Scalar.cmpi .eq c4_i32_217 c0_i32_218
  let c1_i32_219 : BitVec 32 := 1#32
  let v283 : BitVec 32 := Scalar.select v282 c1_i32_219 c4_i32_217
  let v284 : BitVec 32 := Scalar.remsi v281 v283
  let c0_i32_221 : BitVec 32 := 0#32
  let v286 : BitVec 1 := Scalar.cmpi .slt v284 c0_i32_221
  let c0_i32_222 : BitVec 32 := 0#32
  let v287 : BitVec 1 := Scalar.cmpi .slt v283 c0_i32_222
  let v288 : BitVec 1 := Scalar.xori v286 v287
  let c0_i32_220 : BitVec 32 := 0#32
  let v285 : BitVec 1 := Scalar.cmpi .ne v284 c0_i32_220
  let v289 : BitVec 1 := Scalar.andi v288 v285
  let v290 : BitVec 32 := Scalar.addi v284 v283
  let v291 : BitVec 32 := Scalar.select v289 v290 v284
  let c4_i32_232 : BitVec 32 := 4#32
  let v297 : BitVec 32 := Scalar.muli v291 c4_i32_232
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v299 : BitVec 32 := Scalar.muli v8 c1_i32_233
  let v300 : BitVec 32 := Scalar.addi v298 v299
  v300.toNat
def k0_dev11 (d0 : Dev nD) : Nat :=
  let c0_i32_251 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_250 : BitVec 32 := 16#32
  let v321 : BitVec 32 := Scalar.muli v2 c16_i32_250
  let v322 : BitVec 32 := Scalar.addi c0_i32_251 v321
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_236 : BitVec 32 := 2#32
  let v307 : BitVec 32 := Scalar.addi v5 c2_i32_236
  let c4_i32_237 : BitVec 32 := 4#32
  let c0_i32_238 : BitVec 32 := 0#32
  let v308 : BitVec 1 := Scalar.cmpi .eq c4_i32_237 c0_i32_238
  let c1_i32_239 : BitVec 32 := 1#32
  let v309 : BitVec 32 := Scalar.select v308 c1_i32_239 c4_i32_237
  let v310 : BitVec 32 := Scalar.remsi v307 v309
  let c0_i32_241 : BitVec 32 := 0#32
  let v312 : BitVec 1 := Scalar.cmpi .slt v310 c0_i32_241
  let c0_i32_242 : BitVec 32 := 0#32
  let v313 : BitVec 1 := Scalar.cmpi .slt v309 c0_i32_242
  let v314 : BitVec 1 := Scalar.xori v312 v313
  let c0_i32_240 : BitVec 32 := 0#32
  let v311 : BitVec 1 := Scalar.cmpi .ne v310 c0_i32_240
  let v315 : BitVec 1 := Scalar.andi v314 v311
  let v316 : BitVec 32 := Scalar.addi v310 v309
  let v317 : BitVec 32 := Scalar.select v315 v316 v310
  let c4_i32_252 : BitVec 32 := 4#32
  let v323 : BitVec 32 := Scalar.muli v317 c4_i32_252
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v325 : BitVec 32 := Scalar.muli v8 c1_i32_253
  let v326 : BitVec 32 := Scalar.addi v324 v325
  v326.toNat
def k0_dev12 (d0 : Dev nD) : Nat :=
  let c0_i32_271 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_270 : BitVec 32 := 16#32
  let v347 : BitVec 32 := Scalar.muli v2 c16_i32_270
  let v348 : BitVec 32 := Scalar.addi c0_i32_271 v347
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_256 : BitVec 32 := 3#32
  let v333 : BitVec 32 := Scalar.addi v5 c3_i32_256
  let c4_i32_257 : BitVec 32 := 4#32
  let c0_i32_258 : BitVec 32 := 0#32
  let v334 : BitVec 1 := Scalar.cmpi .eq c4_i32_257 c0_i32_258
  let c1_i32_259 : BitVec 32 := 1#32
  let v335 : BitVec 32 := Scalar.select v334 c1_i32_259 c4_i32_257
  let v336 : BitVec 32 := Scalar.remsi v333 v335
  let c0_i32_261 : BitVec 32 := 0#32
  let v338 : BitVec 1 := Scalar.cmpi .slt v336 c0_i32_261
  let c0_i32_262 : BitVec 32 := 0#32
  let v339 : BitVec 1 := Scalar.cmpi .slt v335 c0_i32_262
  let v340 : BitVec 1 := Scalar.xori v338 v339
  let c0_i32_260 : BitVec 32 := 0#32
  let v337 : BitVec 1 := Scalar.cmpi .ne v336 c0_i32_260
  let v341 : BitVec 1 := Scalar.andi v340 v337
  let v342 : BitVec 32 := Scalar.addi v336 v335
  let v343 : BitVec 32 := Scalar.select v341 v342 v336
  let c4_i32_272 : BitVec 32 := 4#32
  let v349 : BitVec 32 := Scalar.muli v343 c4_i32_272
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v351 : BitVec 32 := Scalar.muli v8 c1_i32_273
  let v352 : BitVec 32 := Scalar.addi v350 v351
  v352.toNat
def k0_off8 (d0 : Dev nD) : Fin 2 → Nat :=
  let c1024_277 : Index := 1024#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_276 : BitVec 32 := 512#32
  let v359 : BitVec 32 := Scalar.muli v5 c512_i32_276
  let v360 : Index := Scalar.indexCast v359
  ![1024, v360.toNat]
def k0_off9 (d0 : Dev nD) (c1_i32_291 : BitVec 32) : Fin 2 → Nat :=
  let c1536_i32_310 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v376 : BitVec 32 := Scalar.addi v5 c1_i32_291
  let c4_i32_292 : BitVec 32 := 4#32
  let c0_i32_293 : BitVec 32 := 0#32
  let v377 : BitVec 1 := Scalar.cmpi .eq c4_i32_292 c0_i32_293
  let c1_i32_294 : BitVec 32 := 1#32
  let v378 : BitVec 32 := Scalar.select v377 c1_i32_294 c4_i32_292
  let v379 : BitVec 32 := Scalar.remsi v376 v378
  let c0_i32_296 : BitVec 32 := 0#32
  let v381 : BitVec 1 := Scalar.cmpi .slt v379 c0_i32_296
  let c0_i32_297 : BitVec 32 := 0#32
  let v382 : BitVec 1 := Scalar.cmpi .slt v378 c0_i32_297
  let v383 : BitVec 1 := Scalar.xori v381 v382
  let c0_i32_295 : BitVec 32 := 0#32
  let v380 : BitVec 1 := Scalar.cmpi .ne v379 c0_i32_295
  let v384 : BitVec 1 := Scalar.andi v383 v380
  let v385 : BitVec 32 := Scalar.addi v379 v378
  let v386 : BitVec 32 := Scalar.select v384 v385 v379
  let c512_i32_298 : BitVec 32 := 512#32
  let v387 : BitVec 32 := Scalar.muli v386 c512_i32_298
  ![1536, v387.toNat]
def k0_dev13 (d0 : Dev nD) : Nat :=
  let c0_i32_306 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_305 : BitVec 32 := 16#32
  let v390 : BitVec 32 := Scalar.muli v2 c16_i32_305
  let v391 : BitVec 32 := Scalar.addi c0_i32_306 v390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_291 : BitVec 32 := 1#32
  let v376 : BitVec 32 := Scalar.addi v5 c1_i32_291
  let c4_i32_292 : BitVec 32 := 4#32
  let c0_i32_293 : BitVec 32 := 0#32
  let v377 : BitVec 1 := Scalar.cmpi .eq c4_i32_292 c0_i32_293
  let c1_i32_294 : BitVec 32 := 1#32
  let v378 : BitVec 32 := Scalar.select v377 c1_i32_294 c4_i32_292
  let v379 : BitVec 32 := Scalar.remsi v376 v378
  let c0_i32_296 : BitVec 32 := 0#32
  let v381 : BitVec 1 := Scalar.cmpi .slt v379 c0_i32_296
  let c0_i32_297 : BitVec 32 := 0#32
  let v382 : BitVec 1 := Scalar.cmpi .slt v378 c0_i32_297
  let v383 : BitVec 1 := Scalar.xori v381 v382
  let c0_i32_295 : BitVec 32 := 0#32
  let v380 : BitVec 1 := Scalar.cmpi .ne v379 c0_i32_295
  let v384 : BitVec 1 := Scalar.andi v383 v380
  let v385 : BitVec 32 := Scalar.addi v379 v378
  let v386 : BitVec 32 := Scalar.select v384 v385 v379
  let c4_i32_307 : BitVec 32 := 4#32
  let v392 : BitVec 32 := Scalar.muli v386 c4_i32_307
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v394 : BitVec 32 := Scalar.muli v8 c1_i32_308
  let v395 : BitVec 32 := Scalar.addi v393 v394
  v395.toNat
def k0_dev14 (d0 : Dev nD) : Nat :=
  let c0_i32_326 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_325 : BitVec 32 := 16#32
  let v416 : BitVec 32 := Scalar.muli v2 c16_i32_325
  let v417 : BitVec 32 := Scalar.addi c0_i32_326 v416
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_311 : BitVec 32 := 2#32
  let v402 : BitVec 32 := Scalar.addi v5 c2_i32_311
  let c4_i32_312 : BitVec 32 := 4#32
  let c0_i32_313 : BitVec 32 := 0#32
  let v403 : BitVec 1 := Scalar.cmpi .eq c4_i32_312 c0_i32_313
  let c1_i32_314 : BitVec 32 := 1#32
  let v404 : BitVec 32 := Scalar.select v403 c1_i32_314 c4_i32_312
  let v405 : BitVec 32 := Scalar.remsi v402 v404
  let c0_i32_316 : BitVec 32 := 0#32
  let v407 : BitVec 1 := Scalar.cmpi .slt v405 c0_i32_316
  let c0_i32_317 : BitVec 32 := 0#32
  let v408 : BitVec 1 := Scalar.cmpi .slt v404 c0_i32_317
  let v409 : BitVec 1 := Scalar.xori v407 v408
  let c0_i32_315 : BitVec 32 := 0#32
  let v406 : BitVec 1 := Scalar.cmpi .ne v405 c0_i32_315
  let v410 : BitVec 1 := Scalar.andi v409 v406
  let v411 : BitVec 32 := Scalar.addi v405 v404
  let v412 : BitVec 32 := Scalar.select v410 v411 v405
  let c4_i32_327 : BitVec 32 := 4#32
  let v418 : BitVec 32 := Scalar.muli v412 c4_i32_327
  let v419 : BitVec 32 := Scalar.addi v417 v418
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v420 : BitVec 32 := Scalar.muli v8 c1_i32_328
  let v421 : BitVec 32 := Scalar.addi v419 v420
  v421.toNat
def k0_dev15 (d0 : Dev nD) : Nat :=
  let c0_i32_346 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_345 : BitVec 32 := 16#32
  let v442 : BitVec 32 := Scalar.muli v2 c16_i32_345
  let v443 : BitVec 32 := Scalar.addi c0_i32_346 v442
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_331 : BitVec 32 := 3#32
  let v428 : BitVec 32 := Scalar.addi v5 c3_i32_331
  let c4_i32_332 : BitVec 32 := 4#32
  let c0_i32_333 : BitVec 32 := 0#32
  let v429 : BitVec 1 := Scalar.cmpi .eq c4_i32_332 c0_i32_333
  let c1_i32_334 : BitVec 32 := 1#32
  let v430 : BitVec 32 := Scalar.select v429 c1_i32_334 c4_i32_332
  let v431 : BitVec 32 := Scalar.remsi v428 v430
  let c0_i32_336 : BitVec 32 := 0#32
  let v433 : BitVec 1 := Scalar.cmpi .slt v431 c0_i32_336
  let c0_i32_337 : BitVec 32 := 0#32
  let v434 : BitVec 1 := Scalar.cmpi .slt v430 c0_i32_337
  let v435 : BitVec 1 := Scalar.xori v433 v434
  let c0_i32_335 : BitVec 32 := 0#32
  let v432 : BitVec 1 := Scalar.cmpi .ne v431 c0_i32_335
  let v436 : BitVec 1 := Scalar.andi v435 v432
  let v437 : BitVec 32 := Scalar.addi v431 v430
  let v438 : BitVec 32 := Scalar.select v436 v437 v431
  let c4_i32_347 : BitVec 32 := 4#32
  let v444 : BitVec 32 := Scalar.muli v438 c4_i32_347
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v446 : BitVec 32 := Scalar.muli v8 c1_i32_348
  let v447 : BitVec 32 := Scalar.addi v445 v446
  v447.toNat
def k0_off10 (d0 : Dev nD) : Fin 2 → Nat :=
  let c1536_352 : Index := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_351 : BitVec 32 := 512#32
  let v454 : BitVec 32 := Scalar.muli v5 c512_i32_351
  let v455 : Index := Scalar.indexCast v454
  ![1536, v455.toNat]
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geometry.lean ====
/-
# The exchange's geometry: devices, blocks and contents

Device `c` of the 2 × 4 × 4 mesh is `16 x + 4 y + z`. The exchange runs inside each group of four devices that share
`x` and `z`. Device `c` holds 2048 rows of the array; it cuts them in four chunks of 512 rows and each row in four
column blocks of 512, keeps the column block of its own `y` and sends the other three to the peers. Its result has
four row blocks, one for each source `y`, each again in four chunks of 512 rows.

This module fixes the peers, the regions of the two scratch buffers and of the result, and the contents each region
ends with. Every region's contents are the restriction of ONE function on the whole buffer, so that regions join
without any bookkeeping.
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

/-- A device's coordinate on the mesh axis the exchange runs along. -/
def yOf (c : Dev nD) : Fin 4 := ⟨c.val / 4 % 4, Nat.mod_lt _ (by decide)⟩

/-- The device of `c`'s group at coordinate `y`. -/
def atY (c : Dev nD) (y : Fin 4) : Dev nD := ⟨16 * (c.val / 16) + 4 * y.val + c.val % 4, by
  have h : c.val < 32 := c.isLt
  have hy := y.isLt
  show _ < 32
  omega⟩

/-- The peer of `c` in direction `i`: `i + 1` further along the exchange's axis. -/
def peer (i : Fin 3) (c : Dev nD) : Dev nD := atY c ⟨(c.val / 4 % 4 + i.val + 1) % 4, Nat.mod_lt _ (by decide)⟩

theorem peer_rev_peer : ∀ (i : Fin 3) (c : Dev nD), peer i.rev (peer i c) = c := by decide +kernel
theorem peer_peer_rev (i : Fin 3) (c : Dev nD) : peer i (peer i.rev c) = c := by
  have h := peer_rev_peer i.rev c
  rwa [Fin.rev_rev] at h

/-- Direction `i` permutes the devices; direction `i.rev` is its inverse. -/
def peerEquiv (i : Fin 3) : Dev nD ≃ Dev nD := ⟨peer i, peer i.rev, peer_rev_peer i, peer_peer_rev i⟩

/-- The coordinates a device meets: its own, and its peer's in each direction. -/
def yAt (t : Option (Fin 3)) (c : Dev nD) : Fin 4 := match t with
  | none => yOf c
  | some i => yOf (peer i c)

theorem yAt_inj : ∀ (c : Dev nD) (t t' : Option (Fin 3)), yAt t c = yAt t' c → t = t' := by decide +kernel
theorem yAt_surj : ∀ (c : Dev nD) (y : Fin 4), ∃ t, yAt t c = y := by decide +kernel

theorem yOf_atY : ∀ (c : Dev nD) (y : Fin 4), yOf (atY c y) = y := by decide +kernel
theorem atY_peer : ∀ (i : Fin 3) (c : Dev nD), atY (peer i c) (yOf c) = c := by decide +kernel
theorem atY_self : ∀ c : Dev nD, atY c (yOf c) = c := by decide +kernel

/-- The coordinate of the peer in direction `i`, as the sum the kernel computes. -/
theorem yOf_peer : ∀ (i : Fin 3) (c : Dev nD), (yOf (peer i c)).val = (c.val / 4 % 4 + i.val + 1) % 4 := by decide +kernel

/-! ## Regions -/

/-- The positions of a two-axis array in rows `r .. r + nr` and columns `k .. k + nk`. -/
def box {d : Fin 2 → ℕ} (r nr k nk : ℕ) : Finset (⟨2, d⟩ : Shape).Idx :=
  Finset.univ.filter fun i => (r ≤ (i 0).val ∧ (i 0).val < r + nr) ∧ (k ≤ (i 1).val ∧ (i 1).val < k + nk)

theorem mem_box {d : Fin 2 → ℕ} {r nr k nk : ℕ} {i : (⟨2, d⟩ : Shape).Idx} :
    i ∈ box r nr k nk ↔ (r ≤ (i 0).val ∧ (i 0).val < r + nr) ∧ (k ≤ (i 1).val ∧ (i 1).val < k + nk) := by
  unfold box; rw [Finset.mem_filter]; exact and_iff_right (Finset.mem_univ _)

/-- A unit-stride rectangle covers its box. -/
theorem unit_set {d off size : Fin 2 → ℕ} {inb : ∀ a, off a + size a ≤ (⟨2, d⟩ : Shape).size a} :
    (Rect.unit (s := ⟨2, d⟩) off size inb).set = box (off 0) (size 0) (off 1) (size 1) := by
  ext i
  rw [Rect.mem_set_unit, mem_box]
  exact Fin.forall_fin_two

/-- Chunk `j` of `x`'s rows (and of the copy of `x` in the kernel's own memory). -/
def rowsOf (j : Fin 4) : Finset S2048x2048.Idx := box (512 * j.val) 512 0 2048
/-- Column block `y` of chunk `j`. -/
def blkOf (j y : Fin 4) : Finset S2048x2048.Idx := box (512 * j.val) 512 (512 * y.val) 512
/-- The rows of the result that come from coordinate `y`. -/
def outRows (y : Fin 4) : Finset S8192x512.Idx := box (2048 * y.val) 2048 0 512
/-- Chunk `j` of them. -/
def outBlk (y j : Fin 4) : Finset S8192x512.Idx := box (2048 * y.val + 512 * j.val) 512 0 512
/-- Half `s` of the landing buffer. -/
def half (s : Fin 2) : Finset S2x512x2048.Idx := Finset.univ.filter fun i => (i 0).val = s.val

theorem mem_half {s : Fin 2} {i : S2x512x2048.Idx} : i ∈ half s ↔ (i 0).val = s.val := by
  unfold half; rw [Finset.mem_filter]; exact and_iff_right (Finset.mem_univ _)

theorem rows_cover : (Finset.univ : Finset (Fin 4)).biUnion rowsOf = Finset.univ := by
  ext i
  have h0 := idx2_lt0 i
  have h1 := idx2_lt1 i
  refine ⟨fun _ => Finset.mem_univ _, fun _ => Finset.mem_biUnion.mpr ⟨⟨(i 0).val / 512, by omega⟩, Finset.mem_univ _, mem_box.mpr ?_⟩⟩
  dsimp only; omega

theorem rows_disjoint : ∀ j ∈ (Finset.univ : Finset (Fin 4)), ∀ j' ∈ (Finset.univ : Finset (Fin 4)), j ≠ j' → Disjoint (rowsOf j) (rowsOf j') :=
  fun j _ j' _ hne => Finset.disjoint_left.mpr fun i hi hi' => hne (Fin.ext (by
    have h := mem_box.mp hi
    have h' := mem_box.mp hi'
    omega))

/-- A chunk is its four column blocks, taken in the order a device meets the coordinates. -/
theorem blk_cover (c : Dev nD) (j : Fin 4) : (Finset.univ : Finset (Option (Fin 3))).biUnion (fun t => blkOf j (yAt t c)) = rowsOf j := by
  ext i
  have h1 := idx2_lt1 i
  refine ⟨fun h => ?_, fun h => ?_⟩
  · obtain ⟨t, -, ht⟩ := Finset.mem_biUnion.mp h
    have ht := mem_box.mp ht
    exact mem_box.mpr ⟨ht.1, by omega⟩
  · obtain ⟨t, ht⟩ := yAt_surj c ⟨(i 1).val / 512, by omega⟩
    have h := mem_box.mp h
    refine Finset.mem_biUnion.mpr ⟨t, Finset.mem_univ _, mem_box.mpr ⟨h.1, ?_⟩⟩
    rw [ht]; dsimp only; omega

theorem blk_disjoint (c : Dev nD) (j : Fin 4) : ∀ t ∈ (Finset.univ : Finset (Option (Fin 3))), ∀ t' ∈ (Finset.univ : Finset (Option (Fin 3))), t ≠ t' →
    Disjoint (blkOf j (yAt t c)) (blkOf j (yAt t' c)) :=
  fun t _ t' _ hne => Finset.disjoint_left.mpr fun i hi hi' => hne (yAt_inj c t t' (Fin.ext (by
    have h := mem_box.mp hi
    have h' := mem_box.mp hi'
    omega)))

/-- The result is its four row blocks, in the same order. -/
theorem outRows_cover (c : Dev nD) : (Finset.univ : Finset (Option (Fin 3))).biUnion (fun t => outRows (yAt t c)) = Finset.univ := by
  ext i
  have h0 := idx2_lt0 i
  have h1 := idx2_lt1 i
  refine ⟨fun _ => Finset.mem_univ _, fun _ => ?_⟩
  obtain ⟨t, ht⟩ := yAt_surj c ⟨(i 0).val / 2048, by omega⟩
  refine Finset.mem_biUnion.mpr ⟨t, Finset.mem_univ _, mem_box.mpr ?_⟩
  rw [ht]; dsimp only; omega

theorem outRows_disjoint (c : Dev nD) : ∀ t ∈ (Finset.univ : Finset (Option (Fin 3))), ∀ t' ∈ (Finset.univ : Finset (Option (Fin 3))), t ≠ t' →
    Disjoint (outRows (yAt t c)) (outRows (yAt t' c)) :=
  fun t _ t' _ hne => Finset.disjoint_left.mpr fun i hi hi' => hne (yAt_inj c t t' (Fin.ext (by
    have h := mem_box.mp hi
    have h' := mem_box.mp hi'
    omega)))

/-- A row block is its four chunks. -/
theorem outBlk_cover (y : Fin 4) : (Finset.univ : Finset (Fin 4)).biUnion (outBlk y) = outRows y := by
  ext i
  refine ⟨fun h => ?_, fun h => ?_⟩
  · obtain ⟨j, -, hj⟩ := Finset.mem_biUnion.mp h
    have hj := mem_box.mp hj
    have := j.isLt
    exact mem_box.mpr (by omega)
  · have h := mem_box.mp h
    refine Finset.mem_biUnion.mpr ⟨⟨((i 0).val - 2048 * y.val) / 512, by omega⟩, Finset.mem_univ _, mem_box.mpr ?_⟩
    dsimp only; omega

theorem outBlk_disjoint (y : Fin 4) : ∀ j ∈ (Finset.univ : Finset (Fin 4)), ∀ j' ∈ (Finset.univ : Finset (Fin 4)), j ≠ j' → Disjoint (outBlk y j) (outBlk y j') :=
  fun j _ j' _ hne => Finset.disjoint_left.mpr fun i hi hi' => hne (Fin.ext (by
    have h := mem_box.mp hi
    have h' := mem_box.mp hi'
    omega))

theorem half_cover : (Finset.univ : Finset (Fin 2)).biUnion half = Finset.univ := by
  ext i
  refine ⟨fun _ => Finset.mem_univ _, fun _ => Finset.mem_biUnion.mpr ⟨i 0, Finset.mem_univ _, mem_half.mpr rfl⟩⟩

theorem half_disjoint : ∀ s ∈ (Finset.univ : Finset (Fin 2)), ∀ s' ∈ (Finset.univ : Finset (Fin 2)), s ≠ s' → Disjoint (half s) (half s') :=
  fun s _ s' _ hne => Finset.disjoint_left.mpr fun i hi hi' => hne (Fin.ext ((mem_half.mp hi).symm.trans (mem_half.mp hi')))

/-! ## Memrefs -/

abbrev xM : Memref sig .tc .hbm S2048x2048 .bf16 := Memref.whole main_arg0
abbrev oM : Memref sig .tc .vmem S8192x512 .bf16 := Memref.whole cc0_stg0_0
abbrev stM : Memref sig .tc .vmem S2x512x2048 .bf16 := Memref.whole cc0_scratch0
abbrev xbM : Memref sig .tc .vmem S2048x2048 .bf16 := Memref.whole cc0_scratch1

/-! ## Contents -/

variable (m : (ℓ : Loc nD τ sig) → Buf (Elt F) ℓ)

/-- Device `c`'s rows of the array. -/
def xF (c : Dev nD) : S2048x2048.Idx → Elt F .bf16 := m ((c : Thread nD τ).loc main_arg0)

/-- The landing buffer once chunk `j` is in it (in either half). -/
def stF (c : Dev nD) (j : Fin 4) : S2x512x2048.Idx → Elt F .bf16 := fun i =>
  xF m c (ix2 ⟨512 * j.val + (i 1).val, by have h : (i 1).val < 512 := (i 1).isLt; have := j.isLt; omega⟩ ⟨(i 2).val, (i 2).isLt⟩)

/-- What device `c` ends with: row `2048 y + r` is row `r` of the device at coordinate `y`, in the columns of `c`'s own
    coordinate. -/
def outF (c : Dev nD) : S8192x512.Idx → Elt F .bf16 := fun i =>
  xF m (atY c ⟨(i 0).val / 2048, by have := idx2_lt0 i; omega⟩)
    (ix2 ⟨(i 0).val % 2048, Nat.mod_lt _ (by decide)⟩ ⟨512 * (yOf c).val + (i 1).val, by have := idx2_lt1 i; have := (yOf c).isLt; omega⟩)

end Cert.Exchange

end
-- ==== Proof.Schedule.lean ====
/-
# The exchange's schedule

Twenty-five semaphores of each device carry the exchange, each used for one round:

* the barrier semaphore counts three signals, one from each peer; a signal hands its receiver the signalling device's
  result rows, the ones the receiver is going to write;
* a SEND semaphore counts one block leaving; it returns the block of the sender's copy of `x`;
* a RECEIVE semaphore counts one block arriving; it hands over the block of the result, holding its final contents.

There are twelve send and twelve receive semaphores, one for each direction and chunk. The two semaphores of the local
loads are not in the schedule: a load is waited for by the device that issued it.
-/
module

public import proofs.«01_k».proof.Proof.Geometry

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's algebra: the pipeline's rounds, the exchange's rounds, the local loads' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL

/-- The exchange's rounds inside the whole algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_landsIn : (ER : Emb UB 𝕄).LandsIn (upEmb : UEmb _ 𝕄) := by unfold ER; infer_instance

variable (m : (ℓ : Loc nD τ sig) → Buf (Elt F) ℓ)

/-! ## Cells -/

/-- The semaphores of the schedule: `none` is the barrier, `some (false, i, j)` the send semaphore of direction `i` and
    chunk `j`, `some (true, i, j)` the receive semaphore. -/
abbrev Ck : Type := Option (Bool × Fin 3 × Fin 4)

abbrev barS : Sem sig := (SemArray.scalar (sig.barrier 0 rfl) : Sems sig S_).sem

def xferS (b : Bool) (i : Fin 3) (j : Fin 4) : DmaSem sig := ⟨(if b then 15 else 3) + 4 * i.val + j.val, by
  have := i.isLt; have := j.isLt
  show _ < 27
  split <;> omega⟩

def csem : Ck → SemLoc sig
  | none => .reg barS
  | some (b, i, j) => .dma (xferS b i j)

/-- The place of a semaphore in the schedule, if it has one. -/
def kindOf (sm : SemLoc sig) : Option Ck := if h : ∃ k, csem k = sm then some h.choose else none

theorem csem_inj : Function.Injective csem := by
  intro k k' h
  revert k k'
  decide +kernel

theorem kindOf_csem (k : Ck) : kindOf (csem k) = some k := by
  unfold kindOf
  have h : ∃ k', csem k' = csem k := ⟨k, rfl⟩
  rw [dif_pos h]
  exact congrArg some (csem_inj h.choose_spec)

abbrev cell (c : Dev nD) (k : Ck) : GSem nD τ sig := ((c : Thread nD τ), csem k)
abbrev barC (c : Dev nD) : GSem nD τ sig := cell c none
abbrev sndC (c : Dev nD) (i : Fin 3) (j : Fin 4) : GSem nD τ sig := cell c (some (false, i, j))
abbrev rcvC (c : Dev nD) (i : Fin 3) (j : Fin 4) : GSem nD τ sig := cell c (some (true, i, j))

theorem cell_inj {c c' : Dev nD} {k k' : Ck} (h : cell c k = cell c' k') : c = c' ∧ k = k' :=
  ⟨congrArg (fun g : GSem nD τ sig => g.1.1) h, csem_inj (congrArg Prod.snd h)⟩

/-- What one block's transfer counts on a semaphore. -/
def N : ℕ := (oM.slice (Rect.unit (s := S8192x512) ![0, 0] S512x512.size (by decide)) (fun _ => rfl)).view.dmaCredit

/-! ## What the signals and transfers hand over -/

/-- Duty `i` of device `p`'s barrier is paid by the device `p` sees in direction `i.rev`: the rows of that device's result
    that `p` writes. -/
def barPay (p : Dev nD) (i : Fin 3) : sProp 𝕄 :=
  iprop(∃ f : S8192x512.Idx → Elt F .bf16, oM.view.loc ((peer i.rev p : Dev nD) : Thread nD τ) ↦[outRows (yOf p)]{fullShare} f)
/-- The block of the sender's copy of `x` back. -/
def sndPay (c : Dev nD) (i : Fin 3) (j : Fin 4) : sProp 𝕄 :=
  xbM.view.loc (c : Thread nD τ) ↦[blkOf j (yOf (peer i c))]{fullShare} xF m c
/-- The block of the result that the peer in direction `i.rev` sends, arrived. -/
def rcvPay (p : Dev nD) (i : Fin 3) (j : Fin 4) : sProp 𝕄 :=
  oM.view.loc (p : Thread nD τ) ↦[outBlk (yOf (peer i.rev p)) j]{fullShare} outF m p

def payOf (c : Dev nD) (k : Ck) (d : Fin 3) : sProp 𝕄 := match k with
  | none => barPay c d
  | some (false, i, j) => sndPay m c i j
  | some (true, i, j) => rcvPay m c i j

def amtOf : Ck → ℕ
  | none => 1
  | some _ => N

def dutiesOf : Ck → Finset (Fin 3)
  | none => Finset.univ
  | some _ => {0}

theorem N_pos : 0 < N := View.dmaCredit_pos _ (by decide)

theorem amtOf_pos (k : Ck) : 0 < amtOf k := by
  cases k
  · exact Nat.one_pos
  · exact N_pos

instance payOf_storable (c : Dev nD) (k : Ck) (d : Fin 3) : BI.Storable (upEmb : UEmb _ 𝕄) (payOf m c k d) := by
  unfold payOf
  split
  · unfold barPay; infer_instance
  · unfold sndPay; infer_instance
  · unfold rcvPay; infer_instance

/-- The schedule: every cell's one round. -/
def sched : Rounds.Schedule (GSem nD τ sig) (Fin 3) 𝕄 where
  duties g r := if r = 0 ∧ g.1.2 = .tc then (kindOf g.2).elim ∅ dutiesOf else ∅
  unitless _ := False
  amount g _ _ := (kindOf g.2).elim 1 amtOf
  payload g _ d := (kindOf g.2).elim iprop(emp) fun k => payOf m g.1.1 k d
  amount_pos g _ _ _ := by
    cases kindOf g.2
    · exact Nat.one_pos
    · exact amtOf_pos _

instance sched_payload_storable (g : GSem nD τ sig) (r : ℕ) (d : Fin 3) : BI.Storable (upEmb : UEmb _ 𝕄) ((sched (F := F) m).payload g r d) := by
  show BI.Storable upEmb ((kindOf g.2).elim iprop(emp) fun k => payOf m g.1.1 k d)
  cases kindOf g.2
  · show BI.Storable upEmb iprop(emp); infer_instance
  · exact payOf_storable m _ _ _

section
omit [FloatOps F]

theorem duties_cell (c : Dev nD) (k : Ck) : (sched (F := F) m).duties (cell c k) 0 = dutiesOf k := by
  dsimp only [sched]; rw [if_pos ⟨rfl, rfl⟩, kindOf_csem]; rfl
theorem duties_later (g : GSem nD τ sig) : ∀ r, 1 ≤ r → (sched (F := F) m).duties g r = ∅ :=
  fun r hr => by dsimp only [sched]; rw [if_neg fun h => by omega]
theorem amount_cell (c : Dev nD) (k : Ck) (d : Fin 3) : (sched (F := F) m).amount (cell c k) 0 d = amtOf k := by
  dsimp only [sched]; rw [kindOf_csem]; rfl
theorem payload_cell (c : Dev nD) (k : Ck) (d : Fin 3) : (sched (F := F) m).payload (cell c k) 0 d = payOf m c k d := by
  dsimp only [sched]; rw [kindOf_csem]; rfl

theorem expect_bar (c : Dev nD) : (sched (F := F) m).expect (barC c) 0 = 3 := by
  unfold Schedule.expect Schedule.amountOf
  rw [duties_cell, Finset.sum_congr rfl fun d _ => amount_cell m c none d]
  rfl
theorem expect_xfer (c : Dev nD) (x : Bool × Fin 3 × Fin 4) : (sched (F := F) m).expect (cell c (some x)) 0 = N := by
  unfold Schedule.expect Schedule.amountOf
  rw [duties_cell]
  exact (Finset.sum_singleton _ _).trans (amount_cell m c (some x) 0)

/-- The barrier's whole round: the three peers' result rows. -/
theorem rest_bar (c : Dev nD) :
    bigSep ((sched (F := F) m).duties (barC c) 0 \ ∅) (fun d => (sched (F := F) m).payload (barC c) 0 d) = bigSep Finset.univ fun i : Fin 3 => barPay c i := by
  rw [Finset.sdiff_empty, duties_cell]
  exact bigSep_congr fun d _ => payload_cell m c none d
/-- A transfer's whole round: its one payload. -/
theorem rest_xfer (c : Dev nD) (x : Bool × Fin 3 × Fin 4) :
    bigSep ((sched (F := F) m).duties (cell c (some x)) 0 \ ∅) (fun d => (sched (F := F) m).payload (cell c (some x)) 0 d) = payOf m c (some x) 0 := by
  rw [Finset.sdiff_empty, duties_cell]
  exact bigSep_singleton.trans (payload_cell m c (some x) 0)

end

/-! ## What a device owes, and the levels -/

/-- What the chunk-`j` sends of device `c` pay: one block's credit on each peer's receive semaphore. -/
def sendDebt (c : Dev nD) (j : Fin 4) : CellTallies nD τ sig Unit := ∑ i : Fin 3, tallyAt (rcvC (peer i c) i j) () N

/-- What is still owed when `k` chunks are still to be sent. -/
def left (c : Dev nD) : ℕ → CellTallies nD τ sig Unit
  | 0 => 0
  | k + 1 => left c k + (if h : k < 4 then sendDebt c (Fin.rev ⟨k, h⟩) else 0)

theorem left_succ (c : Dev nD) (j : Fin 4) : left c (4 - j.val) = left c (3 - j.val) + sendDebt c j := by
  have h : 4 - j.val = (3 - j.val) + 1 := by omega
  rw [h, left, dif_pos (show 3 - j.val < 4 by omega)]
  congr 2
  apply Fin.ext
  rw [Fin.val_rev]
  dsimp only; omega

/-- The three signals' units. -/
def barDebt (c : Dev nD) : CellTallies nD τ sig Unit := ∑ i : Fin 3, tallyAt (barC (peer i c)) () 1

/-- Device `c`'s debts at launch: every block it sends and every signal. -/
def debt (c : Dev nD) : CellTallies nD τ sig Unit := left c 4 + barDebt c

/-- The indices a cell is tracked at: the launch uses one, on the main cores' cells. -/
def L (g : GSem nD τ sig) : Finset Unit := if g.1.2 = .tc then {()} else ∅
/-- Barriers at level 1, receive semaphores at level 2, everything else at 0. -/
def lv (g : GSem nD τ sig) (_ : Unit) : ℕ := match kindOf g.2 with
  | some none => 1
  | some (some (true, _)) => 2
  | _ => 0

theorem L_of_ne (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _
theorem lv_bar (c : Dev nD) : lv (barC c) () = 1 := by unfold lv; rw [kindOf_csem]
theorem lv_rcv (c : Dev nD) (i : Fin 3) (j : Fin 4) : lv (rcvC c i j) () = 2 := by unfold lv; rw [kindOf_csem]

theorem tally_pos {g g' : GSem nD τ sig} {n : ℕ} {u : Unit} (h : 0 < tallyAt (nD := nD) (τ := τ) (sig := sig) g () n g' u) : g' = g := by
  rw [tallyAt_apply] at h
  by_contra hn
  rw [if_neg fun h' => hn h'.1] at h
  exact Nat.lt_irrefl 0 h

theorem sum_tally_pos {D : Fin 3 → GSem nD τ sig} {n : ℕ} {g : GSem nD τ sig} {u : Unit}
    (h : 0 < (∑ i : Fin 3, tallyAt (nD := nD) (τ := τ) (sig := sig) (D i) () n) g u) : ∃ i, g = D i := by
  rw [Finset.sum_apply, Finsupp.finsetSum_apply] at h
  obtain ⟨i, -, hi⟩ := Finset.exists_ne_zero_of_sum_ne_zero (Nat.pos_iff_ne_zero.mp h)
  exact ⟨i, tally_pos (Nat.pos_of_ne_zero hi)⟩

/-- Sends are owed to receive semaphores only. -/
theorem left_pos (c : Dev nD) : ∀ (k : ℕ) {g : GSem nD τ sig} {u : Unit}, 0 < left c k g u → ∃ p i j, g = rcvC p i j
  | 0, g, u, h => absurd h (Nat.lt_irrefl 0)
  | k + 1, g, u, h => by
    rw [left, Pi.add_apply, Finsupp.add_apply] at h
    rcases Nat.eq_zero_or_pos (left c k g u) with h0 | h0
    · rw [h0, Nat.zero_add] at h
      split at h
      · obtain ⟨i, hi⟩ := sum_tally_pos h
        exact ⟨_, i, _, hi⟩
      · exact absurd h (Nat.lt_irrefl 0)
    · exact left_pos c k h0

/-- Everything owed is owed to receive semaphores and barriers: level at least 1. -/
theorem debt_pos (c : Dev nD) {g : GSem nD τ sig} {u : Unit} (h : 0 < debt c g u) : (∃ p i j, g = rcvC p i j) ∨ ∃ p, g = barC p := by
  unfold debt at h
  rw [Pi.add_apply, Finsupp.add_apply] at h
  rcases Nat.eq_zero_or_pos (left c 4 g u) with h0 | h0
  · rw [h0, Nat.zero_add] at h
    obtain ⟨i, hi⟩ := sum_tally_pos h
    exact .inr ⟨_, hi⟩
  · exact .inl (left_pos c 4 h0)

/-- The levels of every cell. -/
def levs : sProp 𝕄 := levAts L lv

section
omit [FloatOps F]

instance levs_persistent : BI.Persistent (levs : sProp 𝕄) := by unfold levs; infer_instance

/-- A device that owes only sends may wait on any of its own semaphores below level 2. -/
theorem mayWait_left (c : Dev nD) (k : ℕ) (sm : SemLoc sig) (hsm : lv ((c : Thread nD τ), sm) () ≤ 1) :
    (levs : sProp 𝕄) ⊢ MayWait (c : Thread nD τ) sm () (left c k) :=
  MayOwe.of_cut (L := L) (lev := lv) 1 (fun p hp => by rw [Finset.mem_singleton.mp hp]; exact mem_L c sm)
    (fun g u hg => by obtain ⟨p, i, j, rfl⟩ := left_pos c k hg; exact mem_L p _)
    (fun p hp => by rw [Finset.mem_singleton.mp hp]; exact hsm)
    (fun g u hg => by obtain ⟨p, i, j, rfl⟩ := left_pos c k hg; rw [lv_rcv]; decide)

/-- With all its debts a device may still wait on a semaphore of level 0. -/
theorem mayWait_debt (c : Dev nD) (sm : SemLoc sig) (hsm : lv ((c : Thread nD τ), sm) () = 0) :
    (levs : sProp 𝕄) ⊢ MayWait (c : Thread nD τ) sm () (debt c) :=
  MayOwe.of_cut (L := L) (lev := lv) 0 (fun p hp => by rw [Finset.mem_singleton.mp hp]; exact mem_L c sm)
    (fun g u hg => by rcases debt_pos c hg with ⟨p, i, j, rfl⟩ | ⟨p, rfl⟩ <;> exact mem_L p _)
    (fun p hp => by rw [Finset.mem_singleton.mp hp]; exact hsm.le)
    (fun g u hg => by
      rcases debt_pos c hg with ⟨p, i, j, rfl⟩ | ⟨p, rfl⟩
      · rw [lv_rcv]; decide
      · rw [lv_bar]; decide)

end

/-- The semaphores outside the schedule are at level 0. -/
theorem lv_of_not (c : Dev nD) (sm : SemLoc sig) (h : ∀ k, csem k ≠ sm) : lv ((c : Thread nD τ), sm) () = 0 := by
  unfold lv kindOf
  rw [dif_neg fun h' => h _ h'.choose_spec]

end Cert.Exchange

end
-- ==== Proof.Contents.lean ====
/-
# What each transfer and store leaves

Every memory operation of the kernel goes through a rectangle of one of four buffers. For each: the region the rectangle
covers, and the contents the operation leaves there, as a restriction of the function that describes the whole buffer.
-/
module

public import proofs.«01_k».proof.Proof.Schedule
public import Idealize.ShloMosaic.Lib.ValueLayout

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI

variable {F : FTy → Type} [FloatOps F]
variable (m : (ℓ : Loc nD τ sig) → Buf (Elt F) ℓ)

/-! ## The memrefs the kernel transfers through -/

/-- Rows of `x` at `off`. -/
abbrev xSl (off : Fin 2 → ℕ) (h : ∀ a, off a + S512x2048.size a ≤ S2048x2048.size a) : Memref sig .tc .hbm S512x2048 .bf16 :=
  xM.slice (Rect.unit (s := S2048x2048) off S512x2048.size h) (fun _ => rfl)
/-- A half of the landing buffer, as a matrix. -/
abbrev stSl (off : Fin 3 → ℕ) (h : ∀ a, off a + S1x512x2048.size a ≤ S2x512x2048.size a) : Memref sig .tc .vmem S512x2048 .bf16 :=
  (stM.slice (Rect.unit (s := S2x512x2048) off S1x512x2048.size h) (fun _ => rfl)).squeeze S512x2048 squeezes_S1x512x2048_S512x2048
/-- A block of the copy of `x`. -/
abbrev xbSl (off : Fin 2 → ℕ) (h : ∀ a, off a + S512x512.size a ≤ S2048x2048.size a) : Memref sig .tc .vmem S512x512 .bf16 :=
  xbM.slice (Rect.unit (s := S2048x2048) off S512x512.size h) (fun _ => rfl)
/-- A block of the result. -/
abbrev oSl (off : Fin 2 → ℕ) (h : ∀ a, off a + S512x512.size a ≤ S8192x512.size a) : Memref sig .tc .vmem S512x512 .bf16 :=
  oM.slice (Rect.unit (s := S8192x512) off S512x512.size h) (fun _ => rfl)

/-! ## Regions -/

theorem xSl_set (j : Fin 4) {off} (h) (ho : off = ![512 * j.val, 0]) : (xSl off h).view.set = rowsOf j := by
  subst ho
  refine (View.set_slice_whole _ _).trans (unit_set.trans ?_)
  ext i
  rw [mem_box]
  exact mem_box.symm
theorem xbSl_set (j y : Fin 4) {off} (h) (ho : off = ![512 * j.val, 512 * y.val]) : (xbSl off h).view.set = blkOf j y := by
  subst ho
  refine (View.set_slice_whole _ _).trans (unit_set.trans ?_)
  ext i
  rw [mem_box]
  exact mem_box.symm
theorem oSl_set (y j : Fin 4) {off} (h) (ho : off = ![2048 * y.val + 512 * j.val, 0]) : (oSl off h).view.set = outBlk y j := by
  subst ho
  refine (View.set_slice_whole _ _).trans (unit_set.trans ?_)
  ext i
  rw [mem_box]
  exact mem_box.symm

theorem half_set (s : Fin 2) {off} (h) (ho : off = ![s.val, 0, 0]) : (Rect.unit (s := S2x512x2048) off S1x512x2048.size h).set = half s := by
  subst ho
  ext i
  rw [Rect.mem_set_unit, mem_half]
  refine ⟨fun hi => ?_, fun hi a => ?_⟩
  · have h0 : s.val ≤ (i 0).val ∧ (i 0).val < s.val + 1 := hi 0
    omega
  · match a with
    | ⟨0, _⟩ => show s.val ≤ (i 0).val ∧ (i 0).val < s.val + 1; omega
    | ⟨1, _⟩ => have h1 : (i 1).val < 512 := (i 1).isLt; show 0 ≤ (i 1).val ∧ (i 1).val < 0 + 512; omega
    | ⟨2, _⟩ => have h2 : (i 2).val < 2048 := (i 2).isLt; show 0 ≤ (i 2).val ∧ (i 2).val < 0 + 2048; omega

theorem stSl_set (s : Fin 2) {off} (h) (ho : off = ![s.val, 0, 0]) : (stSl off h).view.set = half s :=
  (View.set_reshape _ _).trans ((View.set_slice_whole _ _).trans (half_set s h ho))

/-! ## Elements of a rectangle -/

/-- A region element, as its rectangle's own index. -/
theorem exists_emb {s : Shape} {off size : Fin s.rank → ℕ} {inb} {i : s.Idx} (hi : i ∈ (Rect.unit off size inb).set) :
    ∃ x : (Rect.unit off size inb).shape.Idx, (Rect.unit off size inb).emb x = i ∧ ∀ a, (i a).val = off a + (x a).val := by
  have h := Rect.mem_set_unit.mp hi
  refine ⟨fun a => ⟨(i a).val - off a, ?_⟩, ?_, fun a => ?_⟩
  · have := h a
    show _ < size a
    omega
  · funext a
    apply Fin.ext
    rw [Rect.emb_apply]
    show off a + 1 * ((i a).val - off a) = (i a).val
    have := h a; omega
  · have := h a
    show _ = off a + ((i a).val - off a)
    omega

theorem ix2_ext {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1

/-! ## Contents -/

section
omit [FloatOps F]

/-- A load puts chunk `j` of `x` in its half of the landing buffer. -/
theorem load_contents (c : Dev nD) (j : Fin 4) (s : Fin 2) {offx offs} (hx) (hs) (hox : offx = ![512 * j.val, 0]) (hos : offs = ![s.val, 0, 0])
    (fd : S2x512x2048.Idx → Elt F .bf16) :
    ∀ i ∈ half s, (stSl offs hs).view.write (Elt F) fd ((xSl offx hx).view.read (Elt F) (xF m c)) Finset.univ i = stF m c j i := by
  intro i hi
  rw [← half_set s hs hos] at hi
  obtain ⟨x, rfl, hx'⟩ := exists_emb hi
  obtain ⟨y, hy⟩ := (Shape.reshapeEquiv squeezes_S1x512x2048_S512x2048.numel_eq).surjective x
  subst hox hos
  have hemb : (stSl ![s.val, 0, 0] hs).view.emb y = (Rect.unit (s := S2x512x2048) ![s.val, 0, 0] S1x512x2048.size hs).emb x := by
    exact congrArg (Rect.unit (s := S2x512x2048) ![s.val, 0, 0] S1x512x2048.size hs).emb hy
  replace hy : x = ix3 (⟨0, Nat.one_pos⟩ : Fin 1) (y 0) (y 1) := hy.symm.trans ((congrArg _ (eq_ix2 y)).trans (reshapeEquiv_ix2_1ab _ _ _))
  rw [← hemb, View.write_emb_of_mem _ _ (Finset.mem_univ y)]
  show xF m c ((Rect.unit (s := S2048x2048) ![512 * j.val, 0] S512x2048.size hx).emb y) = stF m c j ((stSl ![s.val, 0, 0] hs).view.emb y)
  rw [hemb]
  unfold stF
  refine congrArg (xF m c) (ix2_ext ?_ ?_)
  · rw [Rect.emb_apply]
    show 512 * j.val + 1 * (y 0).val = 512 * j.val + ((Rect.unit (s := S2x512x2048) ![s.val, 0, 0] S1x512x2048.size hs).emb x 1).val
    rw [Rect.emb_apply, hy]
    show _ = 512 * j.val + (0 + 1 * (y 0).val)
    omega
  · rw [Rect.emb_apply]
    show 0 + 1 * (y 1).val = ((Rect.unit (s := S2x512x2048) ![s.val, 0, 0] S1x512x2048.size hs).emb x 2).val
    rw [Rect.emb_apply, hy]
    rfl

/-- A transferred block is the sender's part of the receiver's result. -/
theorem send_contents (c p : Dev nD) (hp : atY p (yOf c) = c) (j : Fin 4) {offx offo} (hx) (ho)
    (hox : offx = ![512 * j.val, 512 * (yOf p).val]) (hoo : offo = ![2048 * (yOf c).val + 512 * j.val, 0]) (fd : S8192x512.Idx → Elt F .bf16) :
    ∀ i ∈ outBlk (yOf c) j, (oSl offo ho).view.write (Elt F) fd ((xbSl offx hx).view.read (Elt F) (xF m c)) Finset.univ i = outF m p i := by
  intro i hi
  rw [← oSl_set (yOf c) j ho hoo, View.set_slice_whole] at hi
  obtain ⟨x, rfl, hx'⟩ := exists_emb hi
  subst hox hoo
  have h0 := hx' 0
  have h1 := hx' 1
  have hj := j.isLt
  have hx0 : (x 0).val < 512 := (x 0).isLt
  have hb0 : ((Rect.unit (s := S8192x512) ![2048 * (yOf c).val + 512 * j.val, 0] S512x512.size ho).emb x 0).val = 2048 * (yOf c).val + 512 * j.val + (x 0).val := h0
  have hb1 : ((Rect.unit (s := S8192x512) ![2048 * (yOf c).val + 512 * j.val, 0] S512x512.size ho).emb x 1).val = (x 1).val := h1.trans (Nat.zero_add _)
  rw [show (Rect.unit (s := S8192x512) ![2048 * (yOf c).val + 512 * j.val, 0] S512x512.size ho).emb x
    = (oSl ![2048 * (yOf c).val + 512 * j.val, 0] ho).view.emb x from rfl, View.write_emb_of_mem _ _ (Finset.mem_univ x)]
  show xF m c ((Rect.unit (s := S2048x2048) ![512 * j.val, 512 * (yOf p).val] S512x512.size hx).emb x)
    = outF m p ((Rect.unit (s := S8192x512) ![2048 * (yOf c).val + 512 * j.val, 0] S512x512.size ho).emb x)
  unfold outF
  have hc : atY p ⟨((Rect.unit (s := S8192x512) ![2048 * (yOf c).val + 512 * j.val, 0] S512x512.size ho).emb x 0).val / 2048, by
      rw [hb0]; have := (yOf c).isLt; omega⟩ = c := by
    refine Eq.trans (congrArg (atY p) (Fin.ext ?_)) hp
    show ((Rect.unit (s := S8192x512) ![2048 * (yOf c).val + 512 * j.val, 0] S512x512.size ho).emb x 0).val / 2048 = (yOf c).val
    rw [hb0]; omega
  rw [hc]
  refine congrArg (xF m c) (ix2_ext ?_ ?_)
  · rw [Rect.emb_apply]
    show 512 * j.val + 1 * (x 0).val = ((Rect.unit (s := S8192x512) ![2048 * (yOf c).val + 512 * j.val, 0] S512x512.size ho).emb x 0).val % 2048
    rw [hb0]; omega
  · rw [Rect.emb_apply]
    show 512 * (yOf p).val + 1 * (x 1).val
      = 512 * (yOf p).val + ((Rect.unit (s := S8192x512) ![2048 * (yOf c).val + 512 * j.val, 0] S512x512.size ho).emb x 1).val
    rw [hb1]; omega

end

/-- The kernel's two casts drop the landing half's unit axis. -/
theorem pay_apply (v : Vec F S1x512x2048 .bf16) (x : S512x2048.Idx) : k0_pay1 v x = v (ix3 (0 : Fin 1) (x 0) (x 1)) := by
  dsimp only [k0_pay1]
  rw [shapeCast_self]
  exact (congrArg _ (eq_ix2 x)).trans (shapeCast_1ab_ab_apply _ _ _ _)

/-- Copying the landed chunk out of its half leaves the chunk of `x`. -/
theorem copy_contents (c : Dev nD) (j : Fin 4) (s : Fin 2) {offs : Fin 3 → ℕ} {offx : Fin 2 → ℕ}
    (hs : ∀ a, offs a + S1x512x2048.size a ≤ S2x512x2048.size a) (hx : ∀ a, offx a + S512x2048.size a ≤ S2048x2048.size a)
    (hos : offs = ![s.val, 0, 0]) (hox : offx = ![512 * j.val, 0]) (fd : S2048x2048.Idx → Elt F .bf16) :
    ∀ i ∈ rowsOf j, (xbM.access (Rect.unit (s := S2048x2048) offx S512x2048.size hx)).write (Elt F) fd
      (k0_pay1 (F := F) (stM.view.readAt (Elt F) (Rect.unit (s := S2x512x2048) offs S1x512x2048.size hs).toLoadRect (stF m c j))) Finset.univ i = xF m c i := by
  intro i hi
  subst hos hox
  have hi' : i ∈ (Rect.unit (s := S2048x2048) ![512 * j.val, 0] S512x2048.size hx).set := by
    rw [unit_set, mem_box]; exact mem_box.mp hi
  obtain ⟨x, rfl, hx'⟩ := exists_emb hi'
  have h0 : ((Rect.unit (s := S2048x2048) ![512 * j.val, 0] S512x2048.size hx).emb x 0).val = 512 * j.val + (x 0).val := hx' 0
  have h1 : ((Rect.unit (s := S2048x2048) ![512 * j.val, 0] S512x2048.size hx).emb x 1).val = (x 1).val := (hx' 1).trans (Nat.zero_add _)
  have hw := View.write_emb_of_mem (Val := Elt F) (v := xbM.access (Rect.unit (s := S2048x2048) ![512 * j.val, 0] S512x2048.size hx)) fd
    (k0_pay1 (F := F) (stM.view.readAt (Elt F) (Rect.unit (s := S2x512x2048) ![s.val, 0, 0] S1x512x2048.size hs).toLoadRect (stF m c j))) (Finset.mem_univ x)
  refine hw.trans ?_
  have hp := pay_apply (F := F) (stM.view.readAt (Elt F) (Rect.unit (s := S2x512x2048) ![s.val, 0, 0] S1x512x2048.size hs).toLoadRect (stF m c j)) x
  refine Eq.trans hp ?_
  show stF m c j ((Rect.unit (s := S2x512x2048) ![s.val, 0, 0] S1x512x2048.size hs).emb (ix3 (0 : Fin 1) (x 0) (x 1))) = _
  unfold stF
  refine congrArg (xF m c) (ix2_ext ?_ ?_)
  · rw [h0]
    show 512 * j.val + (0 + 1 * (x 0).val) = _
    omega
  · rw [h1]
    show 0 + 1 * (x 1).val = _
    omega

end Cert.Exchange

end
-- ==== Proof.Steps.lean ====
/-
# The kernel's operations, one lemma each

Each lemma carries one memory operation of the kernel (or a fixed short run of them) from the resources it needs to the
resources it leaves, for every device, chunk and direction. The kernel's body is a sequence of instances of these.
-/
module

public import proofs.«01_k».proof.Proof.Contents

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

abbrev 𝒱₀ : Variants := Variants.none

/-- The weakest precondition of a program of device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Resources -/

/-- Device `c`'s regions of its four buffers. -/
abbrev xPt (c : Dev nD) (S : Finset S2048x2048.Idx) (f : S2048x2048.Idx → Elt F .bf16) : sProp 𝕄 := xM.view.loc (c : Thread nD τ) ↦[S]{fullShare} f
abbrev stPt (c : Dev nD) (S : Finset S2x512x2048.Idx) (f : S2x512x2048.Idx → Elt F .bf16) : sProp 𝕄 := stM.view.loc (c : Thread nD τ) ↦[S]{fullShare} f
abbrev xbPt (c : Dev nD) (S : Finset S2048x2048.Idx) (f : S2048x2048.Idx → Elt F .bf16) : sProp 𝕄 := xbM.view.loc (c : Thread nD τ) ↦[S]{fullShare} f
abbrev oPt (c : Dev nD) (S : Finset S8192x512.Idx) (f : S8192x512.Idx → Elt F .bf16) : sProp 𝕄 := oM.view.loc (c : Thread nD τ) ↦[S]{fullShare} f

/-- Every cell's invariant, and that every cell's round 0 is reached: facts, shared by all devices. -/
def facts : sProp 𝕄 :=
  iprop((bigSep Finset.univ fun ck : Dev nD × Ck => cellInv ER (sched m) (K ck) (cell ck.1 ck.2))
    ∗ (bigSep Finset.univ fun ck : Dev nD × Ck => reached ER (cell ck.1 ck.2) 0) ∗ levs)

instance facts_persistent : BI.Persistent (facts m K) := by unfold facts; infer_instance

section
omit [FloatOps F]

theorem facts_inv (c : Dev nD) (k : Ck) : facts m K ⊢ cellInv ER (sched m) (K (c, k)) (cell c k) := by
  have h : (bigSep Finset.univ fun ck : Dev nD × Ck => (cellInv ER (sched m) (K ck) (cell ck.1 ck.2) : sProp 𝕄)) ⊢ cellInv ER (sched m) (K (c, k)) (cell c k) :=
    bigSep_elim (Finset.mem_univ (c, k))
  unfold facts
  iintro ⟨H, -, -⟩
  iapply h $$ H
theorem facts_reached (c : Dev nD) (k : Ck) : facts m K ⊢ reached ER (cell c k) 0 := by
  have h : (bigSep Finset.univ fun ck : Dev nD × Ck => (reached ER (cell ck.1 ck.2) 0 : sProp 𝕄)) ⊢ reached ER (cell c k) 0 :=
    bigSep_elim (Finset.mem_univ (c, k))
  unfold facts
  iintro ⟨-, H, -⟩
  iapply h $$ H
theorem facts_left (c : Dev nD) (n : ℕ) (sm : SemLoc sig) (hsm : lv ((c : Thread nD τ), sm) () ≤ 1) :
    facts m K ⊢ MayWait (c : Thread nD τ) sm () (left c n) := by
  have h := mayWait_left (F := F) c n sm hsm
  unfold facts
  iintro ⟨-, -, H⟩
  iapply h $$ H

end

/-- What device `c` owes, whatever it has waited for. -/
def own (c : Dev nD) (O : CellTallies nD τ sig Unit) : sProp 𝕄 := iprop(∃ W, owes (c : Thread nD τ) O W)

/-- The semaphore of the loads into half `s`. -/
def ldS (s : Fin 2) : DmaSem sig := ⟨1 + s.val, by have := s.isLt; show _ < 27; omega⟩

theorem ldS_not : ∀ (s : Fin 2) (k : Ck), csem k ≠ .dma (ldS s) := by decide +kernel

/-- What a load counts. -/
def NL : ℕ := sig.dmaCredit .tc (Kind.table .tc .vmem) stM.view.buf S1x512x2048 .bf16
theorem NL_pos : 0 < NL := sig.dmaCredit_pos _ _ _ _ _ (by decide)
theorem credit_st (offs : Fin 3 → ℕ) (hs) : (stSl offs hs).view.dmaCredit = NL := by unfold NL; rfl

theorem credit_xb (offx : Fin 2 → ℕ) (hx) : (xbSl offx hx).view.dmaCredit = N := by unfold N; rfl
theorem credit_o (offo : Fin 2 → ℕ) (ho) : (oSl offo ho).view.dmaCredit = N := by unfold N; rfl

/-- The load of chunk `j` into half `s`, under way. -/
def flying (c : Dev nD) (j : Fin 4) (s : Fin 2) : sProp 𝕄 :=
  Flight (countersEmb) (c : Thread nD τ) (.dma (ldS s)) () NL iprop(stPt c (half s) (stF m c j) ∗ xPt c (rowsOf j) (xF m c))

/-! ## Loads -/

/-- Starting the load of chunk `j` into half `s`. -/
theorem step_load (c : Dev nD) (j : Fin 4) (s : Fin 2) {offx : Fin 2 → ℕ} {offs : Fin 3 → ℕ} {hx hs} (hox : offx = ![512 * j.val, 0]) (hos : offs = ![s.val, 0, 0])
    {sem : DmaSem sig} (hsem : sem = ldS s) {h1 h2 h3} {α : Type} {Q : α → sProp 𝕄} {k : PUnit → Prog (TpuEff nD τ sig (Elt F) Λ₀ .tc) α} :
    iprop(xPt c (rowsOf j) (xF m c) ∗ (∃ f, stPt c (half s) f) ∗ semVal ((c : Thread nD τ), SemLoc.dma (ldS s)) 0)
      ⊢ iprop((flying m c j s -∗ run c (k ⟨⟩) Q)
        -∗ run c (.op (.enqueueDma (xSl offx hx) (.here (stSl offs hs)) (.dma sem) h1 h2 h3) k) Q) := by
  subst hsem
  iintro ⟨Hx, ⟨%f, Hs⟩, Hv⟩ Hk
  ihave Hx' := (Entails.of_eq (show xPt c (rowsOf j) (xF m c) = ((xSl offx hx).view.loc (c : Thread nD τ) ↦[(xSl offx hx).view.set]{fullShare} xF m c : sProp 𝕄) from by
    rw [xSl_set j hx hox])) $$ Hx
  iapply (wp_dmaLocal countersEmb 𝒱₀ (c : Thread nD τ) none (src := xSl offx hx) (dst := stSl offs hs) (sm := .dma (ldS s)) (fs := xF m c) (fd := f) (Sd := half s)
      () NL (credit_st offs hs) NL_pos (by rw [stSl_set s hs hos])) $$ [Hx' Hs Hv]
  · isplitl [Hx']; · iexact Hx'
    isplitl [Hs] <;> iassumption
  iintro Hfl
  iapply Hk
  unfold flying
  iapply (Flight_mono countersEmb (c : Thread nD τ) (D := iprop(((stSl offs hs).view.loc (c : Thread nD τ) ↦[half s]{fullShare}
      ((stSl offs hs).view.write (Elt F) f ((ReadAs.same).apply ((xSl offx hx).view.read (Elt F) (xF m c))) Finset.univ))
    ∗ ((xSl offx hx).view.loc (c : Thread nD τ) ↦[(xSl offx hx).view.set]{fullShare} xF m c))) (BIClass.sep_mono (Entails.of_eq (pointsTo_congr (load_contents m c j s hx hs hox hos f)))
    (Entails.of_eq (by rw [xSl_set j hx hox])))) $$ Hfl

/-- Waiting for it: the chunk is in its half, and the rows of `x` and the semaphore are back. -/
theorem step_loaded (c : Dev nD) (j : Fin 4) (s : Fin 2) (n : ℕ) {sem : DmaSem sig} (hsem : sem = ldS s)
    {offs : Fin 3 → ℕ} {hs} {sp' : Space} {s' : Shape} {e' : EltTy} {srcw : Memref sig .tc sp' s' e'} {h1 h2} {α : Type} {Q : α → sProp 𝕄}
    {k : PUnit → Prog (TpuEff nD τ sig (Elt F) Λ₀ .tc) α} :
    iprop(facts m K ∗ flying m c j s ∗ own c (left c n))
      ⊢ iprop((iprop(stPt c (half s) (stF m c j) ∗ xPt c (rowsOf j) (xF m c) ∗ semVal ((c : Thread nD τ), SemLoc.dma (ldS s)) 0 ∗ own c (left c n)) -∗ run c (k ⟨⟩) Q)
        -∗ run c (.op (.waitDma2 sem srcw (stSl offs hs) h1 h2) k) Q) := by
  subst hsem
  have hmw : facts m K ⊢ MayWait (c : Thread nD τ) (.dma (ldS s)) () (left c n) :=
    facts_left m K c n (SemLoc.dma (ldS s)) (by rw [lv_of_not c _ (ldS_not s)]; exact Nat.zero_le 1)
  unfold flying own
  iintro ⟨#Hf, Hfl, ⟨%W, HO⟩⟩ Hk
  iapply (wp_waitLocalO countersEmb 𝒱₀ (c : Thread nD τ) none (dstw := stSl offs hs) () (N := NL) (credit_st offs hs) (O := left c n) (W := W)) $$ [Hfl HO]
  · isplitl [Hfl]; · iexact Hfl
    isplitl [HO]; · iexact HO
    iapply hmw $$ Hf
  iintro ⟨⟨Hst, Hx⟩, Hv, HO⟩
  iapply Hk
  isplitl [Hst]; · iexact Hst
  isplitl [Hx]; · iexact Hx
  isplitl [Hv]; · iexact Hv
  iexists _; iexact HO

/-- Copying the chunk that has landed in half `s` to its rows of the copy of `x` (a load, a load nobody reads, a store). -/
theorem step_copy (c : Dev nD) (j : Fin 4) (s : Fin 2) {offs : Fin 3 → ℕ} {offx : Fin 2 → ℕ} {hs hx hx'} (hos : offs = ![s.val, 0, 0]) (hox : offx = ![512 * j.val, 0])
    {h1 h2} {α : Type} {Q : α → sProp 𝕄}
    {h3 : ∀ v : Vec F S1x512x2048 .bf16, (xbM.access (Rect.unit (s := S2048x2048) offx S512x2048.size hx)).Stores Finset.univ} {h4}
    {k : PUnit → Prog (TpuEff nD τ sig (Elt F) Λ₀ .tc) α} :
    iprop(stPt c (half s) (stF m c j) ∗ ∃ f, xbPt c (rowsOf j) f)
      ⊢ iprop((iprop(stPt c (half s) (stF m c j) ∗ xbPt c (rowsOf j) (xF m c)) -∗ run c (k ⟨⟩) Q)
        -∗ run c (.op (.load stM (Rect.unit (s := S2x512x2048) offs S1x512x2048.size hs).toLoadRect h1) fun v : Vec F S1x512x2048 .bf16 =>
            .op (.load xbM (Rect.unit (s := S2048x2048) offx S512x2048.size hx').toLoadRect h2) fun _ : Vec F S512x2048 .bf16 =>
            .op (.store xbM (Rect.unit (s := S2048x2048) offx S512x2048.size hx) (k0_pay1 v) Finset.univ (h3 v) h4) k) Q) := by
  have hset : (Rect.unit (s := S2048x2048) offx S512x2048.size hx).set = rowsOf j := by
    have h := xSl_set j hx hox; rwa [View.set_slice_whole] at h
  iintro ⟨Hs, ⟨%f, Hx⟩⟩ Hk
  iapply (wp_load 𝒱₀ (c : Thread nD τ) none Set.univ (m := stM) (S := half s) (by
    rw [show (Rect.unit (s := S2x512x2048) offs S1x512x2048.size hs).toLoadRect.set = half s from half_set s hs hos]
    exact (Finset.map_refl (s := half s)).subset)) $$ Hs
  iintro Hs
  iapply (wp_load 𝒱₀ (c : Thread nD τ) none Set.univ (m := xbM) (S := rowsOf j) (by
    rw [show (Rect.unit (s := S2048x2048) offx S512x2048.size hx').toLoadRect.set = rowsOf j from hset]
    exact (Finset.map_refl (s := rowsOf j)).subset)) $$ Hx
  iintro Hx
  iapply (wp_store 𝒱₀ (c : Thread nD τ) none Set.univ (m := xbM) (r := Rect.unit (s := S2048x2048) offx S512x2048.size hx) (S := rowsOf j) (Mk := Finset.univ) (by
    rw [View.setOn_univ]; exact ((View.set_slice_whole _ _).trans hset).subset)) $$ Hx
  iintro Hx
  iapply Hk
  isplitl [Hs]; · iexact Hs
  iapply (Entails.of_eq (pointsTo_congr (copy_contents m c j s hs hx hos hox f))) $$ Hx

/-! ## The barrier -/

/-- The rows of `c`'s result that the peer in direction `i` writes are what `c` hands to that peer's barrier. -/
theorem bar_pay (c : Dev nD) (i : Fin 3) :
    iprop(∃ f, oPt (F := F) c (outRows (yOf (peer i c))) f) ⊢ (sched m).payload ((peer i c : Thread nD τ), SemLoc.reg barS) 0 i := by
  refine Entails.of_eq (Eq.trans ?_ (payload_cell m (peer i c) none i).symm)
  show _ = barPay (peer i c) i
  unfold barPay
  rw [peer_rev_peer]

/-- Signalling the peer in direction `i`: the rows of `c`'s result that the peer writes go with it. -/
theorem step_signal (c : Dev nD) (i : Fin 3) (n : Dev nD) (hn : n = peer i c) (O : CellTallies nD τ sig Unit) {α : Type} {Q : α → sProp 𝕄}
    {k : PUnit → Prog (TpuEff nD τ sig (Elt F) Λ₀ .tc) α} :
    iprop(facts m K ∗ own c (O + tallyAt (barC (peer i c)) () 1) ∗ dutyTok ER (barC (peer i c)) 0 i ∗ ∃ f, oPt c (outRows (yOf (peer i c))) f)
      ⊢ iprop((own c O -∗ run c (k ⟨⟩) Q) -∗ run c (.op (.semSignal (n : Thread nD τ) barS 1) k) Q) := by
  subst hn
  unfold own
  iintro ⟨#Hf, ⟨%W, HO⟩, Ht, Ho⟩ Hk
  iapply (Rounds.wp_signal 𝒱₀ ER (sched m) (c : Thread nD τ) none (dst := (peer i c : Thread nD τ)) (κ := K (peer i c, none))
      (d := i) (by rw [show ((peer i c : Thread nD τ), SemLoc.reg barS) = barC (peer i c) from rfl, duties_cell]; exact Finset.mem_univ _)
      (amount_cell m (peer i c) none i) () O rfl (W := W)) $$ [HO Ht Ho]
  · isplitr; · iapply (facts_inv m K (peer i c) none) $$ Hf
    isplitl [HO]; · iexact HO
    isplitl [Ht]; · iexact Ht
    isplitl [Ho]
    · iapply (bar_pay m c i) $$ Ho
    iapply (facts_reached m K (peer i c) none) $$ Hf
  iintro HO
  iapply Hk
  iexists W; iexact HO

/-- Waiting for the three peers' signals: their rows are `c`'s to write. The barrier's one round is over. -/
theorem step_barrier (c : Dev nD) (n : ℕ) {α : Type} {Q : α → sProp 𝕄} {k : PUnit → Prog (TpuEff nD τ sig (Elt F) Λ₀ .tc) α} :
    iprop(facts m K ∗ own c (left c n) ∗ cred (tallyAt (barC c) () 3) ∗ atPos ER (barC c) 0 ∅ 0)
      ⊢ iprop((iprop(own c (left c n) ∗ semVal (barC c) 0 ∗ bigSep Finset.univ fun i : Fin 3 => iprop(∃ f, oPt (F := F) (peer i c) (outRows (yOf c)) f)) -∗ run c (k ⟨⟩) Q)
        -∗ run c (.op (.semWait barS 3) k) Q) := by
  have hmw : facts m K ⊢ MayWait (c : Thread nD τ) (.reg barS) () (left c n) :=
    facts_left m K c n (SemLoc.reg barS) (lv_bar c).le
  unfold own
  iintro ⟨#Hf, ⟨%W, HO⟩, Hc, Hat⟩ Hk
  iapply (Rounds.wp_wait_rest_token 𝒱₀ ER (sched m) (c : Thread nD τ) none (κ := K (c, none))
      (wpE_semWait_eq 𝒱₀ (c : Thread nD τ) none Set.univ) (Set.mem_univ _) () (O := left c n) (W := W) (R := 0) (m := 0) (T := ∅)
      (by rw [show ((c : Thread nD τ), SemLoc.reg barS) = barC c from rfl, expect_bar])) $$ [Hc HO Hat]
  · isplitr; · iapply (facts_inv m K c none) $$ Hf
    isplitl [Hc]; · iexact Hc
    isplitl [HO]; · iexact HO
    isplitr; · iapply hmw $$ Hf
    iexact Hat
  iintro ⟨HO, Hat, -, Hpay⟩
  imod (Rounds.cell_close ER (sched m) (Set.mem_univ (K (c, none))) (fun h => h) (R := 0 + 1) (duties_later m (barC c))) $$ [Hat] with Hz
  · isplitr; · iapply (facts_inv m K c none) $$ Hf
    iexact Hat
  iapply Hk
  isplitl [HO]; · iexists _; iexact HO
  isplitl [Hz]; · iexact Hz
  ihave Hp := (Entails.of_eq (show bigSep ((sched (F := F) m).duties ((c : Thread nD τ), SemLoc.reg barS) 0 \ ∅)
      (fun d => (sched (F := F) m).payload ((c : Thread nD τ), SemLoc.reg barS) 0 d) = bigSep Finset.univ fun i : Fin 3 => barPay c i from rest_bar m c)) $$ Hpay
  -- a barrier's duty `i` comes from direction `i.rev`: the same three peers, renamed
  iapply (Entails.of_eq (bigSep_univ_equiv Fin.revPerm (fun i : Fin 3 => iprop(∃ f, oPt (F := F) (peer i c) (outRows (yOf c)) f))).symm)
  iexact Hp

/-! ## Blocks -/

theorem duty_xfer (c : Dev nD) (b : Bool) (i : Fin 3) (j : Fin 4) : (0 : Fin 3) ∈ (sched (F := F) m).duties ((c : Thread nD τ), SemLoc.dma (xferS b i j)) 0 :=
  (duties_cell m c (some (b, i, j))).symm ▸ Finset.mem_singleton_self (0 : Fin 3)

theorem send_pay₁ (c : Dev nD) (i : Fin 3) (j : Fin 4) {offx : Fin 2 → ℕ} (hx) (hox : offx = ![512 * j.val, 512 * (yOf (peer i c)).val]) :
    ((xbSl offx hx).view.loc (c : Thread nD τ) ↦[(xbSl offx hx).view.set]{fullShare} xF m c : sProp 𝕄)
      ⊢ (sched m).payload ((c : Thread nD τ), SemLoc.dma (xferS false i j)) 0 0 := by
  refine Entails.of_eq (Eq.trans ?_ (payload_cell m c (some (false, i, j)) 0).symm)
  rw [xbSl_set j _ hx hox]
  rfl

theorem send_pay₂ (c : Dev nD) (i : Fin 3) (j : Fin 4) {offx offo : Fin 2 → ℕ} (hx ho) (hox : offx = ![512 * j.val, 512 * (yOf (peer i c)).val])
    (hoo : offo = ![2048 * (yOf c).val + 512 * j.val, 0]) (f : S8192x512.Idx → Elt F .bf16) :
    ((oSl offo ho).view.loc (peer i c : Thread nD τ) ↦[(oSl offo ho).view.set]{fullShare}
        ((oSl offo ho).view.write (Elt F) f ((xbSl offx hx).view.read (Elt F) (xF m c)) Finset.univ) : sProp 𝕄)
      ⊢ (sched m).payload ((peer i c : Thread nD τ), SemLoc.dma (xferS true i j)) 0 0 := by
  refine Entails.of_eq (Eq.trans ?_ (payload_cell m (peer i c) (some (true, i, j)) 0).symm)
  show _ = rcvPay m (peer i c) i j
  unfold rcvPay
  rw [peer_rev_peer, oSl_set _ j ho hoo]
  exact pointsTo_congr (send_contents m c (peer i c) (atY_peer i c) j hx ho hox hoo f)

/-- Sending chunk `j`'s block to the peer in direction `i`. -/
theorem step_send (c : Dev nD) (i : Fin 3) (j : Fin 4) (n : Dev nD) (hn : n = peer i c)
    {offx offo : Fin 2 → ℕ} {hx ho} (hox : offx = ![512 * j.val, 512 * (yOf (peer i c)).val]) (hoo : offo = ![2048 * (yOf c).val + 512 * j.val, 0])
    {sS sR : DmaSem sig} (hS : sS = xferS false i j) (hR : sR = xferS true i j) {hsc h1 h2 h3}
    (O : CellTallies nD τ sig Unit) {α : Type} {Q : α → sProp 𝕄} {k : PUnit → Prog (TpuEff nD τ sig (Elt F) Λ₀ .tc) α} :
    iprop(facts m K ∗ own c (O + tallyAt (rcvC (peer i c) i j) () N)
        ∗ xbPt c (blkOf j (yOf (peer i c))) (xF m c) ∗ (∃ f, oPt (peer i c) (outBlk (yOf c) j) f)
        ∗ dutyTok ER (sndC c i j) 0 0 ∗ dutyTok ER (rcvC (peer i c) i j) 0 0)
      ⊢ iprop((iprop(cred (tallyAt (sndC c i j) () N) ∗ own c O) -∗ run c (k ⟨⟩) Q)
        -∗ run c (.op (.enqueueDma (xbSl offx hx) (.remote (Dev.tc n : Thread nD τ) (oSl offo ho) (.dma sS) hsc) (.dma sR) h1 h2 h3) k) Q) := by
  subst hn hS hR
  unfold own
  iintro ⟨#Hf, ⟨%W, HO⟩, Hx, ⟨%f, Ho⟩, HtS, HtR⟩ Hk
  ihave Hx' := (Entails.of_eq (show xbPt c (blkOf j (yOf (peer i c))) (xF m c) = ((xbSl offx hx).view.loc (c : Thread nD τ) ↦[(xbSl offx hx).view.set]{fullShare} xF m c : sProp 𝕄) from by
    rw [xbSl_set j _ hx hox])) $$ Hx
  ihave Ho' := (Entails.of_eq (show oPt (peer i c) (outBlk (yOf c) j) f = ((oSl offo ho).view.loc (peer i c : Thread nD τ) ↦[(oSl offo ho).view.set]{fullShare} f : sProp 𝕄) from by
    rw [oSl_set _ j ho hoo])) $$ Ho
  have hp₁ := send_pay₁ m c i j hx hox
  have hp₂ := send_pay₂ m c i j hx ho hox hoo f
  iapply (Rounds.wp_send_pointsTo 𝒱₀ ER (sched m) (c : Thread nD τ) none (κ₁ := K (c, some (false, i, j))) (κ₂ := K (peer i c, some (true, i, j)))
      (c' := ((peer i c : Dev nD) : Thread nD τ)) (src := xbSl offx hx) (dst := oSl offo ho) (sS := .dma (xferS false i j)) (sem := .dma (xferS true i j)) (fs := xF m c)
      (r₁ := 0) (r₂ := 0) (d₁ := 0) (d₂ := 0) (fd := f)
      (duty_xfer m c false i j) (duty_xfer m (peer i c) true i j)
      () () N (credit_o offo ho) (amount_cell m c (some (false, i, j)) 0) (amount_cell m (peer i c) (some (true, i, j)) 0) O rfl (W := W) hp₁ hp₂) $$ [Hx' Ho' HO HtS HtR]
  · isplitr; · iapply (facts_inv m K c (some (false, i, j))) $$ Hf
    isplitr; · iapply (facts_inv m K (peer i c) (some (true, i, j))) $$ Hf
    isplitl [Hx']; · iexact Hx'
    isplitl [Ho']; · iexact Ho'
    isplitl [HO]; · iexact HO
    isplitl [HtS]; · iexact HtS
    isplitr; · iapply (facts_reached m K c (some (false, i, j))) $$ Hf
    isplitl [HtR]; · iexact HtR
    iapply (facts_reached m K (peer i c) (some (true, i, j))) $$ Hf
  iintro ⟨Hc, HO⟩
  iapply Hk
  isplitl [Hc]; · iexact Hc
  iexists W; iexact HO

/-- Copying chunk `j`'s own block to the result (a load, a load nobody reads, a store). -/
theorem step_own (c : Dev nD) (j : Fin 4) {offx offo : Fin 2 → ℕ} {hx ho ho'} (hox : offx = ![512 * j.val, 512 * (yOf c).val])
    (hoo : offo = ![2048 * (yOf c).val + 512 * j.val, 0]) {h1 h2} {α : Type} {Q : α → sProp 𝕄}
    {h3 : ∀ v : Vec F S512x512 .bf16, (oM.access (Rect.unit (s := S8192x512) offo S512x512.size ho)).Stores Finset.univ} {h4}
    {k : PUnit → Prog (TpuEff nD τ sig (Elt F) Λ₀ .tc) α} :
    iprop(xbPt c (blkOf j (yOf c)) (xF m c) ∗ ∃ f, oPt c (outBlk (yOf c) j) f)
      ⊢ iprop((iprop(xbPt c (blkOf j (yOf c)) (xF m c) ∗ oPt c (outBlk (yOf c) j) (outF m c)) -∗ run c (k ⟨⟩) Q)
        -∗ run c (.op (.load xbM (Rect.unit (s := S2048x2048) offx S512x512.size hx).toLoadRect h1) fun v : Vec F S512x512 .bf16 =>
            .op (.load oM (Rect.unit (s := S8192x512) offo S512x512.size ho').toLoadRect h2) fun _ : Vec F S512x512 .bf16 =>
            .op (.store oM (Rect.unit (s := S8192x512) offo S512x512.size ho) v Finset.univ (h3 v) h4) k) Q) := by
  have hsx : (Rect.unit (s := S2048x2048) offx S512x512.size hx).set = blkOf j (yOf c) := by
    have h := xbSl_set j (yOf c) hx hox; rwa [View.set_slice_whole] at h
  have hso : (Rect.unit (s := S8192x512) offo S512x512.size ho).set = outBlk (yOf c) j := by
    have h := oSl_set (yOf c) j ho hoo; rwa [View.set_slice_whole] at h
  iintro ⟨Hx, ⟨%f, Ho⟩⟩ Hk
  iapply (wp_load 𝒱₀ (c : Thread nD τ) none Set.univ (m := xbM) (S := blkOf j (yOf c)) (by
    rw [show (Rect.unit (s := S2048x2048) offx S512x512.size hx).toLoadRect.set = blkOf j (yOf c) from hsx]
    exact (Finset.map_refl (s := blkOf j (yOf c))).subset)) $$ Hx
  iintro Hx
  iapply (wp_load 𝒱₀ (c : Thread nD τ) none Set.univ (m := oM) (S := outBlk (yOf c) j) (by
    rw [show (Rect.unit (s := S8192x512) offo S512x512.size ho').toLoadRect.set = outBlk (yOf c) j from hso]
    exact (Finset.map_refl (s := outBlk (yOf c) j)).subset)) $$ Ho
  iintro Ho
  iapply (wp_store 𝒱₀ (c : Thread nD τ) none Set.univ (m := oM) (r := Rect.unit (s := S8192x512) offo S512x512.size ho) (S := outBlk (yOf c) j) (Mk := Finset.univ) (by
    rw [View.setOn_univ]; exact ((View.set_slice_whole _ _).trans hso).subset)) $$ Ho
  iintro Ho
  iapply Hk
  isplitl [Hx]; · iexact Hx
  iapply (Entails.of_eq (pointsTo_congr (send_contents m c c (atY_self c) j hx ho hox hoo f))) $$ Ho

/-- Waiting on a transfer semaphore, nothing owed: its payload, and the semaphore back at zero. -/
theorem step_wait (c : Dev nD) (x : Bool × Fin 3 × Fin 4) {sem : DmaSem sig} (hsem : sem = xferS x.1 x.2.1 x.2.2)
    {sp sp' : Space} {s s' : Shape} {e e' : EltTy} {srcw : Memref sig .tc sp' s' e'} {dstw : Memref sig .tc sp s e} (hN : dstw.view.dmaCredit = N) {h1 h2}
    {α : Type} {Q : α → sProp 𝕄} {k : PUnit → Prog (TpuEff nD τ sig (Elt F) Λ₀ .tc) α} :
    iprop(facts m K ∗ own c 0 ∗ cred (tallyAt (cell c (some x)) () N) ∗ atPos ER (cell c (some x)) 0 ∅ 0)
      ⊢ iprop((iprop(own c 0 ∗ semVal (cell c (some x)) 0 ∗ payOf m c (some x) 0) -∗ run c (k ⟨⟩) Q)
        -∗ run c (.op (.waitDma2 sem srcw dstw h1 h2) k) Q) := by
  subst hsem
  unfold own
  iintro ⟨#Hf, ⟨%W, HO⟩, Hc, Hat⟩ Hk
  iapply (Rounds.wp_wait_rest_token 𝒱₀ ER (sched m) (c : Thread nD τ) none (sm := SemLoc.dma (xferS x.1 x.2.1 x.2.2)) (k' := N) (κ := K (c, some x))
      (by rw [← hN]; exact wpE_waitDma2_eq 𝒱₀ (c : Thread nD τ) none Set.univ) (Set.mem_univ _) () (O := 0) (W := W) (R := 0) (m := 0) (T := ∅)
      (by rw [Nat.zero_add]; exact (expect_xfer m c x).symm)) $$ [Hc HO Hat]
  · isplitr; · iapply (facts_inv m K c (some x)) $$ Hf
    isplitl [Hc]; · iexact Hc
    isplitl [HO]; · iexact HO
    isplitr; · rw [MayWait_zero]; iempintro
    iexact Hat
  iintro ⟨HO, Hat, -, Hpay⟩
  imod (Rounds.cell_close ER (sched m) (Set.mem_univ (K (c, some x))) (fun h => h) (R := 0 + 1) (duties_later m (cell c (some x)))) $$ [Hat] with Hz
  · isplitr; · iapply (facts_inv m K c (some x)) $$ Hf
    iexact Hat
  iapply Hk
  isplitl [HO]; · iexists _; iexact HO
  isplitl [Hz]; · iexact Hz
  iapply (Entails.of_eq (show bigSep ((sched (F := F) m).duties ((c : Thread nD τ), SemLoc.dma (xferS x.1 x.2.1 x.2.2)) 0 \ ∅)
      (fun d => (sched (F := F) m).payload ((c : Thread nD τ), SemLoc.dma (xferS x.1 x.2.1 x.2.2)) 0 d) = payOf m c (some x) 0 from rest_xfer m c x)) $$ Hpay

end Cert.Exchange

end
-- ==== Proof.Flow.lean ====
/-
# A chunk's round trip

The regions of the four buffers split into the pieces the kernel's operations move, and come back together; and the kernel's
repeated runs of operations — the three signals, a chunk's three transfers with its own block, a chunk's six waits — as one
lemma each.
-/
module

public import proofs.«01_k».proof.Proof.Steps

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-! ## Small families, written out -/

section
omit [FloatOps F]

theorem two (Φ : Fin 2 → sProp 𝕄) : bigSep Finset.univ Φ = iprop(Φ 0 ∗ Φ 1) := bigSep_univ_eq_bigSepL [0, 1] (by decide) (by decide) Φ
theorem three (Φ : Fin 3 → sProp 𝕄) : bigSep Finset.univ Φ = iprop(Φ 0 ∗ Φ 1 ∗ Φ 2) := bigSep_univ_eq_bigSepL [0, 1, 2] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ
/-- The own place and the three directions. -/
theorem own_and_three (Φ : Option (Fin 3) → sProp 𝕄) : bigSep Finset.univ Φ = iprop(Φ none ∗ bigSep Finset.univ fun i => Φ (some i)) := by
  rw [three]
  exact bigSep_univ_eq_bigSepL [none, some 0, some 1, some 2] (by decide) (by decide) Φ
theorem mono {T : Type} [Fintype T] {Φ Ψ : T → sProp 𝕄} (h : ∀ t, Φ t ⊢ Ψ t) : bigSep Finset.univ Φ ⊢ bigSep Finset.univ Ψ := bigSep_mono fun t _ => h t
/-- A family over two indices, either index first. -/
theorem swap {α β : Type} [Fintype α] [Fintype β] [DecidableEq α] [DecidableEq β] (Φ : α → β → sProp 𝕄) :
    (bigSep Finset.univ fun a => bigSep Finset.univ fun b => Φ a b) = bigSep Finset.univ fun b => bigSep Finset.univ fun a => Φ a b :=
  (bigSep_univ_prod (fun p : α × β => Φ p.1 p.2)).symm.trans
    ((bigSep_univ_equiv (Equiv.prodComm β α) (fun p : α × β => Φ p.1 p.2)).trans (bigSep_univ_prod (fun p : β × α => Φ p.2 p.1)))

/-! ## Splitting the buffers -/

/-- A region covered by pairwise disjoint pieces, piece by piece. -/
theorem split_of {T : Type} [Fintype T] {ℓ : Loc nD τ sig} (S : Finset (Idx ℓ)) (P : T → Finset (Idx ℓ)) (hc : ∀ i, Iff (i ∈ S) (∃ t, i ∈ P t))
    (hd : ∀ t ∈ (Finset.univ : Finset T), ∀ t' ∈ (Finset.univ : Finset T), t ≠ t' → Disjoint (P t) (P t')) (f : Buf (Elt F) ℓ) :
    (ℓ ↦[S]{fullShare} f : sProp 𝕄) = bigSep Finset.univ fun t => ℓ ↦[P t]{fullShare} f := by
  have hS : S = Finset.univ.biUnion P := Finset.ext fun i => (hc i).trans
    ⟨fun ⟨t, ht⟩ => Finset.mem_biUnion.mpr ⟨t, Finset.mem_univ t, ht⟩, fun h => let ⟨t, _, ht⟩ := Finset.mem_biUnion.mp h; ⟨t, ht⟩⟩
  rw [hS]
  exact pointsTo_biUnion Finset.univ P hd
theorem cover_iff {T I : Type} [Fintype T] [DecidableEq I] {P : T → Finset I} {S : Finset I} (h : Finset.univ.biUnion P = S) (i : I) : Iff (i ∈ S) (∃ t, i ∈ P t) := by
  rw [← h, Finset.mem_biUnion]
  exact ⟨fun ⟨t, _, ht⟩ => ⟨t, ht⟩, fun ⟨t, ht⟩ => ⟨t, Finset.mem_univ t, ht⟩⟩

theorem x_split (c : Dev nD) (f : S2048x2048.Idx → Elt F .bf16) : xPt c Finset.univ f = bigSep Finset.univ fun j => xPt c (rowsOf j) f :=
  split_of (ℓ := xM.view.loc (c : Thread nD τ)) Finset.univ rowsOf (cover_iff rows_cover) rows_disjoint f
theorem xb_split (c : Dev nD) (f : S2048x2048.Idx → Elt F .bf16) : xbPt c Finset.univ f = bigSep Finset.univ fun j => xbPt c (rowsOf j) f :=
  split_of (ℓ := xbM.view.loc (c : Thread nD τ)) Finset.univ rowsOf (cover_iff rows_cover) rows_disjoint f
theorem st_split (c : Dev nD) (f : S2x512x2048.Idx → Elt F .bf16) : stPt c Finset.univ f = bigSep Finset.univ fun s => stPt c (half s) f :=
  split_of (ℓ := stM.view.loc (c : Thread nD τ)) Finset.univ half (cover_iff half_cover) half_disjoint f
/-- The rows of chunk `j`: the own block and one block per peer. -/
theorem blk_split (c : Dev nD) (j : Fin 4) (f : S2048x2048.Idx → Elt F .bf16) :
    xbPt c (rowsOf j) f = iprop(xbPt c (blkOf j (yOf c)) f ∗ bigSep Finset.univ fun i => xbPt c (blkOf j (yOf (peer i c))) f) :=
  (split_of (ℓ := xbM.view.loc (c : Thread nD τ)) (rowsOf j) (fun t => blkOf j (yAt t c)) (cover_iff (blk_cover c j)) (blk_disjoint c j) f).trans (own_and_three _)
/-- The result: the own rows and one set of rows per peer. -/
theorem o_split (c : Dev nD) (f : S8192x512.Idx → Elt F .bf16) :
    oPt c Finset.univ f = iprop(oPt c (outRows (yOf c)) f ∗ bigSep Finset.univ fun i => oPt c (outRows (yOf (peer i c))) f) :=
  (split_of (ℓ := oM.view.loc (c : Thread nD τ)) Finset.univ (fun t => outRows (yAt t c)) (cover_iff (outRows_cover c)) (outRows_disjoint c) f).trans (own_and_three _)
/-- One device's rows of a result, by chunk. -/
theorem oRows_split (p : Dev nD) (y : Fin 4) (f : S8192x512.Idx → Elt F .bf16) : oPt p (outRows y) f = bigSep Finset.univ fun j => oPt p (outBlk y j) f :=
  split_of (ℓ := oM.view.loc (p : Thread nD τ)) (outRows y) (outBlk y) (cover_iff (outBlk_cover y)) (outBlk_disjoint y) f

/-- The halves of the staging buffer, whatever each holds, are the buffer at some contents. -/
theorem st_join (c : Dev nD) (f g : S2x512x2048.Idx → Elt F .bf16) : iprop(stPt c (half 0) f ∗ stPt c (half 1) g) ⊢ iprop(∃ h, stPt (F := F) c Finset.univ h) := by
  have hj := pointsTo_biUnion_join (Ix := Unit) (Name := ℕ) (U := UU) (Lvl := ℕ) (Val := Elt F) (ℓ := stM.view.loc (c : Thread nD τ)) (q := fullShare)
    Finset.univ half (fun s : Fin 2 => if s = 0 then f else g) f half_disjoint
  rw [two] at hj
  iintro ⟨H0, H1⟩
  ihave H := hj $$ [H0 H1]
  · isplitl [H0]
    · iexact H0
    iexact H1
  icases H with ⟨%h, -, H⟩
  iexists h
  iapply (Entails.of_eq (st_split c h).symm)
  iapply (Entails.of_eq (pointsTo_biUnion Finset.univ half half_disjoint)) $$ H

/-! ## Rows handed out and received -/

/-- The result at some contents: the own rows by chunk, and one set of rows for each peer. -/
theorem o_deal (c : Dev nD) : iprop(∃ f, oPt (F := F) c Finset.univ f)
    ⊢ iprop((bigSep Finset.univ fun j => iprop(∃ f, oPt (F := F) c (outBlk (yOf c) j) f)) ∗ bigSep Finset.univ fun i => iprop(∃ f, oPt (F := F) c (outRows (yOf (peer i c))) f)) := by
  iintro ⟨%f, H⟩
  ihave H' := (Entails.of_eq (o_split c f)) $$ H
  icases H' with ⟨Ho, Hp⟩
  isplitl [Ho]
  · ihave Ho' := (Entails.of_eq (oRows_split c (yOf c) f)) $$ Ho
    iapply (show (bigSep Finset.univ fun j => oPt c (outBlk (yOf c) j) f) ⊢ (bigSep Finset.univ fun j => iprop(∃ f, oPt (F := F) c (outBlk (yOf c) j) f)) from
      mono fun j => by iintro H; iexists f; iexact H) $$ Ho'
  · iapply (show (bigSep Finset.univ fun i => oPt c (outRows (yOf (peer i c))) f) ⊢ (bigSep Finset.univ fun i => iprop(∃ f, oPt (F := F) c (outRows (yOf (peer i c))) f)) from
      mono fun i => by iintro H; iexists f; iexact H) $$ Hp

/-- The rows the peers handed over, by chunk. -/
theorem o_received (c : Dev nD) : (bigSep Finset.univ fun i : Fin 3 => iprop(∃ f, oPt (F := F) (peer i c) (outRows (yOf c)) f))
    ⊢ (bigSep Finset.univ fun j : Fin 4 => bigSep Finset.univ fun i : Fin 3 => iprop(∃ f, oPt (F := F) (peer i c) (outBlk (yOf c) j) f)) := by
  rw [← swap]
  refine mono fun i => ?_
  iintro ⟨%f, H⟩
  ihave H' := (Entails.of_eq (oRows_split (peer i c) (yOf c) f)) $$ H
  iapply (show (bigSep Finset.univ fun j => oPt (peer i c) (outBlk (yOf c) j) f) ⊢ (bigSep Finset.univ fun j => iprop(∃ f, oPt (F := F) (peer i c) (outBlk (yOf c) j) f)) from
    mono fun j => by iintro H; iexists f; iexact H) $$ H'

/-- All blocks of the result arrived, the own ones and the peers', are the result. -/
theorem o_gather (c : Dev nD) (f : S8192x512.Idx → Elt F .bf16) :
    iprop((bigSep Finset.univ fun j : Fin 4 => oPt c (outBlk (yOf c) j) f)
      ∗ bigSep Finset.univ fun j : Fin 4 => bigSep Finset.univ fun i : Fin 3 => oPt c (outBlk (yOf (peer i.rev c)) j) f) ⊢ oPt c Finset.univ f := by
  rw [o_split, oRows_split, ← swap]
  refine BIClass.sep_mono (BI.Entails.refl _) (Entails.of_eq ?_)
  rw [bigSep_univ_equiv Fin.revPerm (fun i : Fin 3 => oPt c (outRows (yOf (peer i c))) f)]
  exact bigSep_congr fun i _ => (oRows_split c _ f).symm

end

/-! ## The three signals -/

/-- The three signals pay the barrier debts and hand the peers their rows. -/
theorem step_signals (c n0 n1 n2 : Dev nD) (h0 : n0 = peer 0 c) (h1 : n1 = peer 1 c) (h2 : n2 = peer 2 c) {α : Type} {Q : α → sProp 𝕄}
    {k : PUnit → Prog (TpuEff nD τ sig (Elt F) Λ₀ .tc) α} :
    iprop(facts m K ∗ own c (debt c) ∗ (bigSep Finset.univ fun i => dutyTok ER (barC (peer i c)) 0 i)
        ∗ bigSep Finset.univ fun i => iprop(∃ f, oPt (F := F) c (outRows (yOf (peer i c))) f))
      ⊢ iprop((own c (left c 4) -∗ run c (k ⟨⟩) Q)
        -∗ run c (.op (.semSignal (n0 : Thread nD τ) barS 1) fun _ => .op (.semSignal (n1 : Thread nD τ) barS 1) fun _ => .op (.semSignal (n2 : Thread nD τ) barS 1) k) Q) := by
  rw [three, three, show debt c = ((left c 4 + tallyAt (barC (peer 2 c)) () 1) + tallyAt (barC (peer 1 c)) () 1) + tallyAt (barC (peer 0 c)) () 1 from by
    unfold debt barDebt; rw [Fin.sum_univ_three]; abel]
  iintro ⟨#Hf, HO, ⟨Ht0, Ht1, Ht2⟩, Ho0, Ho1, Ho2⟩ Hk
  iapply (step_signal m K c 0 n0 h0 (left c 4 + tallyAt (barC (peer 2 c)) () 1 + tallyAt (barC (peer 1 c)) () 1)) $$ [HO Ht0 Ho0]
  · isplitr; · iexact Hf
    isplitl [HO]; · iexact HO
    isplitl [Ht0] <;> iassumption
  iintro HO
  iapply (step_signal m K c 1 n1 h1 (left c 4 + tallyAt (barC (peer 2 c)) () 1)) $$ [HO Ht1 Ho1]
  · isplitr; · iexact Hf
    isplitl [HO]; · iexact HO
    isplitl [Ht1] <;> iassumption
  iintro HO
  iapply (step_signal m K c 2 n2 h2 (left c 4)) $$ [HO Ht2 Ho2]
  · isplitr; · iexact Hf
    isplitl [HO]; · iexact HO
    isplitl [Ht2] <;> iassumption
  iintro HO
  iapply Hk $$ HO

/-! ## A chunk's transfers -/

/-- The tokens of the transfer of chunk `j` in direction `i`: the send semaphore's and the peer's receive semaphore's. -/
def toks (c : Dev nD) (i : Fin 3) (j : Fin 4) : sProp 𝕄 := iprop(dutyTok ER (sndC c i j) 0 0 ∗ dutyTok ER (rcvC (peer i c) i j) 0 0)

/-- The transfers of chunk `j` and its own block: the three blocks are under way, the own block is in the result. -/
theorem step_chunk (c n0 n1 n2 : Dev nD) (j : Fin 4) (a b : ℕ) (ha : a = 4 - j.val) (hb : b = 3 - j.val) (h0 : n0 = peer 0 c) (h1 : n1 = peer 1 c) (h2 : n2 = peer 2 c)
    {offx0 offx1 offx2 offx offo offl : Fin 2 → ℕ} {hx0 hx1 hx2 hx ho hl hl'}
    (hox0 : offx0 = ![512 * j.val, 512 * (yOf (peer 0 c)).val]) (hox1 : offx1 = ![512 * j.val, 512 * (yOf (peer 1 c)).val])
    (hox2 : offx2 = ![512 * j.val, 512 * (yOf (peer 2 c)).val]) (hox : offx = ![512 * j.val, 512 * (yOf c).val])
    (hoo : offo = ![2048 * (yOf c).val + 512 * j.val, 0]) (hol : offl = ![2048 * (yOf c).val + 512 * j.val, 0])
    {sS0 sS1 sS2 sR0 sR1 sR2 : DmaSem sig} (hS0 : sS0 = xferS false 0 j) (hR0 : sR0 = xferS true 0 j) (hS1 : sS1 = xferS false 1 j) (hR1 : sR1 = xferS true 1 j)
    (hS2 : sS2 = xferS false 2 j) (hR2 : sR2 = xferS true 2 j) {hc0 hc1 hc2 p0 p1 p2 q0 q1 q2 t0 t1 t2 h3 h4}
    {h5 : ∀ v : Vec F S512x512 .bf16, (oM.access (Rect.unit (s := S8192x512) offl S512x512.size hl)).Stores Finset.univ} {h6}
    {α : Type} {Q : α → sProp 𝕄} {k : PUnit → Prog (TpuEff nD τ sig (Elt F) Λ₀ .tc) α} :
    iprop(facts m K ∗ own c (left c a) ∗ xbPt c (rowsOf j) (xF m c) ∗ (bigSep Finset.univ fun i => iprop(∃ f, oPt (F := F) (peer i c) (outBlk (yOf c) j) f))
        ∗ (∃ f, oPt c (outBlk (yOf c) j) f) ∗ bigSep Finset.univ fun i => toks c i j)
      ⊢ iprop((iprop((bigSep Finset.univ fun i => cred (tallyAt (sndC c i j) () N)) ∗ own c (left c b) ∗ xbPt c (blkOf j (yOf c)) (xF m c)
            ∗ oPt c (outBlk (yOf c) j) (outF m c)) -∗ run c (k ⟨⟩) Q)
        -∗ run c
          (.op (.enqueueDma (xbSl offx0 hx0) (.remote (Dev.tc n0 : Thread nD τ) (oSl offo ho) (.dma sS0) hc0) (.dma sR0) p0 q0 t0) fun _ =>
            .op (.enqueueDma (xbSl offx1 hx1) (.remote (Dev.tc n1 : Thread nD τ) (oSl offo ho) (.dma sS1) hc1) (.dma sR1) p1 q1 t1) fun _ =>
            .op (.enqueueDma (xbSl offx2 hx2) (.remote (Dev.tc n2 : Thread nD τ) (oSl offo ho) (.dma sS2) hc2) (.dma sR2) p2 q2 t2) fun _ =>
            .op (.load xbM (Rect.unit (s := S2048x2048) offx S512x512.size hx).toLoadRect h3) fun v : Vec F S512x512 .bf16 =>
            .op (.load oM (Rect.unit (s := S8192x512) offl S512x512.size hl').toLoadRect h4) fun _ : Vec F S512x512 .bf16 =>
            .op (.store oM (Rect.unit (s := S8192x512) offl S512x512.size hl) v Finset.univ (h5 v) h6) k) Q) := by
  subst ha hb
  rw [three, three, three, blk_split, three, left_succ c j, show left c (3 - j.val) + sendDebt c j
    = ((left c (3 - j.val) + tallyAt (rcvC (peer 2 c) 2 j) () N) + tallyAt (rcvC (peer 1 c) 1 j) () N) + tallyAt (rcvC (peer 0 c) 0 j) () N from by
      unfold sendDebt; rw [Fin.sum_univ_three]; abel]
  unfold toks
  iintro ⟨#Hf, HO, ⟨Hx, Hx0, Hx1, Hx2⟩, ⟨Ho0, Ho1, Ho2⟩, Ho, ⟨HS0, HR0⟩, ⟨HS1, HR1⟩, HS2, HR2⟩ Hk
  iapply (step_send m K c 0 j n0 h0 hox0 hoo hS0 hR0 (left c (3 - j.val) + tallyAt (rcvC (peer 2 c) 2 j) () N + tallyAt (rcvC (peer 1 c) 1 j) () N)) $$ [HO Hx0 Ho0 HS0 HR0]
  · isplitr; · iexact Hf
    isplitl [HO]; · iexact HO
    isplitl [Hx0]; · iexact Hx0
    isplitl [Ho0]; · iexact Ho0
    isplitl [HS0] <;> iassumption
  iintro ⟨Hc0, HO⟩
  iapply (step_send m K c 1 j n1 h1 hox1 hoo hS1 hR1 (left c (3 - j.val) + tallyAt (rcvC (peer 2 c) 2 j) () N)) $$ [HO Hx1 Ho1 HS1 HR1]
  · isplitr; · iexact Hf
    isplitl [HO]; · iexact HO
    isplitl [Hx1]; · iexact Hx1
    isplitl [Ho1]; · iexact Ho1
    isplitl [HS1] <;> iassumption
  iintro ⟨Hc1, HO⟩
  iapply (step_send m K c 2 j n2 h2 hox2 hoo hS2 hR2 (left c (3 - j.val))) $$ [HO Hx2 Ho2 HS2 HR2]
  · isplitr; · iexact Hf
    isplitl [HO]; · iexact HO
    isplitl [Hx2]; · iexact Hx2
    isplitl [Ho2]; · iexact Ho2
    isplitl [HS2] <;> iassumption
  iintro ⟨Hc2, HO⟩
  iapply (step_own m c j hox hol) $$ [Hx Ho]
  · isplitl [Hx] <;> iassumption
  iintro ⟨Hx, Ho⟩
  iapply Hk
  isplitl [Hc0 Hc1 Hc2]
  · isplitl [Hc0]; · iexact Hc0
    isplitl [Hc1] <;> iassumption
  isplitl [HO]; · iexact HO
  isplitl [Hx] <;> iassumption

/-! ## A chunk's waits -/

/-- What device `c` needs, besides the send's credit, to wait for the two ends of chunk `j` in direction `i`. -/
def ends (c : Dev nD) (i : Fin 3) (j : Fin 4) : sProp 𝕄 :=
  iprop(atPos ER (sndC c i j) 0 ∅ 0 ∗ atPos ER (rcvC c i j) 0 ∅ 0 ∗ cred (tallyAt (rcvC c i j) () N))
/-- What it has afterwards: both semaphores at zero, its block of the copy of `x` back, and a block of the result. -/
def ended (c : Dev nD) (i : Fin 3) (j : Fin 4) : sProp 𝕄 :=
  iprop((semVal (sndC c i j) 0 ∗ semVal (rcvC c i j) 0) ∗ sndPay m c i j ∗ rcvPay m c i j)

theorem pay_snd (c : Dev nD) (i : Fin 3) (j : Fin 4) : payOf m c (some (false, i, j)) 0 = sndPay m c i j := rfl
theorem pay_rcv (c : Dev nD) (i : Fin 3) (j : Fin 4) : payOf m c (some (true, i, j)) 0 = rcvPay m c i j := rfl

/-- The two waits of chunk `j` in direction `i`. -/
theorem step_ends (c : Dev nD) (i : Fin 3) (j : Fin 4) {sS sR : DmaSem sig} (hS : sS = xferS false i j) (hR : sR = xferS true i j)
    {sp1 sp1' sp2 sp2' : Space} {s1 s1' s2 s2' : Shape} {e1 e1' e2 e2' : EltTy} {a1 : Memref sig .tc sp1' s1' e1'} {b1 : Memref sig .tc sp1 s1 e1}
    {a2 : Memref sig .tc sp2' s2' e2'} {b2 : Memref sig .tc sp2 s2 e2} (hN1 : b1.view.dmaCredit = N) (hN2 : b2.view.dmaCredit = N) {p1 q1 p2 q2}
    {α : Type} {Q : α → sProp 𝕄} {k : PUnit → Prog (TpuEff nD τ sig (Elt F) Λ₀ .tc) α} :
    iprop(facts m K ∗ own c 0 ∗ cred (tallyAt (sndC c i j) () N) ∗ ends c i j)
      ⊢ iprop((iprop(own c 0 ∗ ended m c i j) -∗ run c (k ⟨⟩) Q)
        -∗ run c (.op (.waitDma2 sS a1 b1 p1 q1) fun _ => .op (.waitDma2 sR a2 b2 p2 q2) k) Q) := by
  unfold ends ended
  iintro ⟨#Hf, HO, HcS, HaS, HaR, HcR⟩ Hk
  iapply (step_wait m K c (false, i, j) hS hN1) $$ [HO HcS HaS]
  · isplitr; · iexact Hf
    isplitl [HO]; · iexact HO
    isplitl [HcS] <;> iassumption
  iintro ⟨HO, HzS, HpS⟩
  iapply (step_wait m K c (true, i, j) hR hN2) $$ [HO HcR HaR]
  · isplitr; · iexact Hf
    isplitl [HO]; · iexact HO
    isplitl [HcR] <;> iassumption
  iintro ⟨HO, HzR, HpR⟩
  iapply Hk
  isplitl [HO]; · iexact HO
  isplitl [HzS HzR]
  · isplitl [HzS] <;> iassumption
  isplitl [HpS]; · iapply (Entails.of_eq (pay_snd m c i j)) $$ HpS
  iapply (Entails.of_eq (pay_rcv m c i j)) $$ HpR

/-- The six waits of chunk `j`. -/
theorem step_drain (c : Dev nD) (j : Fin 4) {sS0 sS1 sS2 sR0 sR1 sR2 : DmaSem sig} (hS0 : sS0 = xferS false 0 j) (hR0 : sR0 = xferS true 0 j)
    (hS1 : sS1 = xferS false 1 j) (hR1 : sR1 = xferS true 1 j) (hS2 : sS2 = xferS false 2 j) (hR2 : sR2 = xferS true 2 j)
    {a0 a1 a2 d0 d1 d2 : Memref sig .tc .vmem S512x512 .bf16} {b0 b1 b2 e0 e1 e2 : Memref sig .tc .vmem S512x512 .bf16}
    (hb0 : b0.view.dmaCredit = N) (hb1 : b1.view.dmaCredit = N) (hb2 : b2.view.dmaCredit = N) (he0 : e0.view.dmaCredit = N) (he1 : e1.view.dmaCredit = N) (he2 : e2.view.dmaCredit = N)
    {p0 p1 p2 q0 q1 q2 r0 r1 r2 t0 t1 t2} {α : Type} {Q : α → sProp 𝕄} {k : PUnit → Prog (TpuEff nD τ sig (Elt F) Λ₀ .tc) α} :
    iprop(facts m K ∗ own c 0 ∗ (bigSep Finset.univ fun i => cred (tallyAt (sndC c i j) () N)) ∗ bigSep Finset.univ fun i => ends c i j)
      ⊢ iprop((iprop(own c 0 ∗ bigSep Finset.univ fun i => ended m c i j) -∗ run c (k ⟨⟩) Q)
        -∗ run c (.op (.waitDma2 sS0 a0 b0 p0 q0) fun _ => .op (.waitDma2 sR0 d0 e0 r0 t0) fun _ =>
            .op (.waitDma2 sS1 a1 b1 p1 q1) fun _ => .op (.waitDma2 sR1 d1 e1 r1 t1) fun _ =>
            .op (.waitDma2 sS2 a2 b2 p2 q2) fun _ => .op (.waitDma2 sR2 d2 e2 r2 t2) k) Q) := by
  rw [three, three, three]
  iintro ⟨#Hf, HO, ⟨Hc0, Hc1, Hc2⟩, He0, He1, He2⟩ Hk
  iapply (step_ends m K c 0 j hS0 hR0 hb0 he0) $$ [HO Hc0 He0]
  · isplitr; · iexact Hf
    isplitl [HO]; · iexact HO
    isplitl [Hc0] <;> iassumption
  iintro ⟨HO, Hd0⟩
  iapply (step_ends m K c 1 j hS1 hR1 hb1 he1) $$ [HO Hc1 He1]
  · isplitr; · iexact Hf
    isplitl [HO]; · iexact HO
    isplitl [Hc1] <;> iassumption
  iintro ⟨HO, Hd1⟩
  iapply (step_ends m K c 2 j hS2 hR2 hb2 he2) $$ [HO Hc2 He2]
  · isplitr; · iexact Hf
    isplitl [HO]; · iexact HO
    isplitl [Hc2] <;> iassumption
  iintro ⟨HO, Hd2⟩
  iapply Hk
  isplitl [HO]; · iexact HO
  isplitl [Hd0]; · iexact Hd0
  isplitl [Hd1] <;> iassumption

/-! ## After the waits -/

/-- Everything the waits and the own blocks left: the transfer semaphores at zero, the copy of `x` whole, the result whole. -/
theorem gather (c : Dev nD) :
    iprop((bigSep Finset.univ fun j => xbPt c (blkOf j (yOf c)) (xF m c)) ∗ (bigSep Finset.univ fun j => oPt c (outBlk (yOf c) j) (outF m c))
        ∗ bigSep Finset.univ fun j : Fin 4 => bigSep Finset.univ fun i : Fin 3 => ended m c i j)
      ⊢ iprop((bigSep Finset.univ fun j : Fin 4 => bigSep Finset.univ fun i : Fin 3 => iprop(semVal (sndC c i j) 0 ∗ semVal (rcvC c i j) 0))
        ∗ xbPt c Finset.univ (xF m c) ∗ oPt c Finset.univ (outF m c)) := by
  unfold ended
  simp only [bigSep_sep']
  iintro ⟨Hx, Ho, ⟨HzS, HzR⟩, HpS, HpR⟩
  isplitl [HzS HzR]
  · isplitl [HzS] <;> iassumption
  isplitl [Hx HpS]
  · rw [xb_split]
    iapply (Entails.of_eq (show iprop((bigSep Finset.univ fun j => xbPt c (blkOf j (yOf c)) (xF m c)) ∗ bigSep Finset.univ fun j : Fin 4 => bigSep Finset.univ fun i : Fin 3 => sndPay m c i j)
      = (bigSep Finset.univ fun j => xbPt c (rowsOf j) (xF m c)) from (bigSep_sep' _ _ _).symm.trans (bigSep_congr fun j _ => (blk_split c j _).symm)))
    isplitl [Hx] <;> iassumption
  · iapply (o_gather c (outF m c))
    isplitl [Ho]; · iexact Ho
    iexact HpR

end Cert.Exchange

end
-- ==== Proof.Body.lean ====
/-
# The kernel's body

The printed addresses and offsets as the exchange's own; then the body, one lemma per step, from what a device starts with to
the exchanged result.
-/
module

public import proofs.«01_k».proof.Proof.Flow

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-! ## Addresses -/

theorem dev1_eq : ∀ c, (⟨k0_dev1 c, k0_dev1_lt c⟩ : Dev nD) = peer 0 c := by decide +kernel
theorem dev2_eq : ∀ c, (⟨k0_dev2 c, k0_dev2_lt c⟩ : Dev nD) = peer 1 c := by decide +kernel
theorem dev3_eq : ∀ c, (⟨k0_dev3 c, k0_dev3_lt c⟩ : Dev nD) = peer 2 c := by decide +kernel
theorem dev4_eq : ∀ c, (⟨k0_dev4 c, k0_dev4_lt c⟩ : Dev nD) = peer 0 c := by decide +kernel
theorem dev5_eq : ∀ c, (⟨k0_dev5 c, k0_dev5_lt c⟩ : Dev nD) = peer 1 c := by decide +kernel
theorem dev6_eq : ∀ c, (⟨k0_dev6 c, k0_dev6_lt c⟩ : Dev nD) = peer 2 c := by decide +kernel
theorem dev7_eq : ∀ c, (⟨k0_dev7 c, k0_dev7_lt c⟩ : Dev nD) = peer 0 c := by decide +kernel
theorem dev8_eq : ∀ c, (⟨k0_dev8 c, k0_dev8_lt c⟩ : Dev nD) = peer 1 c := by decide +kernel
theorem dev9_eq : ∀ c, (⟨k0_dev9 c, k0_dev9_lt c⟩ : Dev nD) = peer 2 c := by decide +kernel
theorem dev10_eq : ∀ c, (⟨k0_dev10 c, k0_dev10_lt c⟩ : Dev nD) = peer 0 c := by decide +kernel
theorem dev11_eq : ∀ c, (⟨k0_dev11 c, k0_dev11_lt c⟩ : Dev nD) = peer 1 c := by decide +kernel
theorem dev12_eq : ∀ c, (⟨k0_dev12 c, k0_dev12_lt c⟩ : Dev nD) = peer 2 c := by decide +kernel
theorem dev13_eq : ∀ c, (⟨k0_dev13 c, k0_dev13_lt c⟩ : Dev nD) = peer 0 c := by decide +kernel
theorem dev14_eq : ∀ c, (⟨k0_dev14 c, k0_dev14_lt c⟩ : Dev nD) = peer 1 c := by decide +kernel
theorem dev15_eq : ∀ c, (⟨k0_dev15 c, k0_dev15_lt c⟩ : Dev nD) = peer 2 c := by decide +kernel

/-! ## Offsets -/

theorem off1_eq : ∀ (c : Dev nD) (j : Fin 4), k0_off1 c (BitVec.ofNat 32 (512 * j.val)) = ![2048 * (yOf c).val + 512 * j.val, 0] := by decide +kernel
theorem off4_eq : ∀ (c : Dev nD) (j : Fin 4), k0_off4 c (BitVec.ofNat 32 (512 * j.val)) = ![2048 * (yOf c).val + 512 * j.val, 0] := by decide +kernel
theorem off2_eq : ∀ (c : Dev nD) (i : Fin 3), k0_off2 c (BitVec.ofNat 32 (1 + i.val)) = ![512 * (0 : Fin 4).val, 512 * (yOf (peer i c)).val] := by decide +kernel
theorem off5_eq : ∀ (c : Dev nD) (i : Fin 3), k0_off5 c (BitVec.ofNat 32 (1 + i.val)) = ![512 * (1 : Fin 4).val, 512 * (yOf (peer i c)).val] := by decide +kernel
theorem off7_eq : ∀ (c : Dev nD) (i : Fin 3), k0_off7 c (BitVec.ofNat 32 (1 + i.val)) = ![512 * (2 : Fin 4).val, 512 * (yOf (peer i c)).val] := by decide +kernel
theorem off9_eq : ∀ (c : Dev nD) (i : Fin 3), k0_off9 c (BitVec.ofNat 32 (1 + i.val)) = ![512 * (3 : Fin 4).val, 512 * (yOf (peer i c)).val] := by decide +kernel
theorem off3_eq : ∀ c : Dev nD, k0_off3 c = ![512 * (0 : Fin 4).val, 512 * (yOf c).val] := by decide +kernel
theorem off6_eq : ∀ c : Dev nD, k0_off6 c = ![512 * (1 : Fin 4).val, 512 * (yOf c).val] := by decide +kernel
theorem off8_eq : ∀ c : Dev nD, k0_off8 c = ![512 * (2 : Fin 4).val, 512 * (yOf c).val] := by decide +kernel
theorem off10_eq : ∀ c : Dev nD, k0_off10 c = ![512 * (3 : Fin 4).val, 512 * (yOf c).val] := by decide +kernel

/-! ## The body -/

/-- What device `c`'s body starts from, besides the facts: its debts, its barrier's credit and position, the tokens of its
    three signals and twelve transfers, its positions at and credits for its own transfer semaphores, its two load
    semaphores at zero, and its four buffers. -/
def bodyPre (c : Dev nD) : sProp 𝕄 :=
  iprop(own c (debt c) ∗ (cred (tallyAt (barC c) () 3) ∗ atPos ER (barC c) 0 ∅ 0)
    ∗ (bigSep Finset.univ fun i : Fin 3 => dutyTok ER (barC (peer i c)) 0 i)
    ∗ (bigSep Finset.univ fun j : Fin 4 => bigSep Finset.univ fun i : Fin 3 => toks c i j)
    ∗ (bigSep Finset.univ fun j : Fin 4 => bigSep Finset.univ fun i : Fin 3 => ends c i j)
    ∗ (bigSep Finset.univ fun s : Fin 2 => semVal ((c : Thread nD τ), SemLoc.dma (ldS s)) 0)
    ∗ xPt c Finset.univ (xF m c) ∗ (∃ f, stPt c Finset.univ f) ∗ (∃ f, xbPt c Finset.univ f) ∗ ∃ f, oPt c Finset.univ f)

/-- What it ends with: nothing owed, every semaphore at zero, `x` unchanged, the scratch buffers, and the exchanged result. -/
def bodyPost (c : Dev nD) : sProp 𝕄 :=
  iprop(own c 0 ∗ semVal (barC c) 0
    ∗ (bigSep Finset.univ fun j : Fin 4 => bigSep Finset.univ fun i : Fin 3 => iprop(semVal (sndC c i j) 0 ∗ semVal (rcvC c i j) 0))
    ∗ (bigSep Finset.univ fun s : Fin 2 => semVal ((c : Thread nD τ), SemLoc.dma (ldS s)) 0)
    ∗ xPt c Finset.univ (xF m c) ∗ (∃ f, stPt c Finset.univ f) ∗ xbPt c Finset.univ (xF m c) ∗ oPt c Finset.univ (outF m c))

set_option maxRecDepth 8000 in
set_option maxHeartbeats 4000000 in
/-- The body, from `bodyPre` to `bodyPost`. -/
theorem sound_body (c : Dev nD) (Q : PUnit → sProp 𝕄) :
    iprop((facts m K ∗ bodyPre m c) ∗ (bodyPost m c -∗ Q ⟨⟩))
      ⊢ run c (cc0_body xM (Memref.isWhole_whole _) oM (Memref.isWhole_whole _) stM (Memref.isWhole_whole _) xbM (Memref.isWhole_whole _)
          cc0_scratch2 cc0_scratch3 cc0_scratch4) Q := by
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel
    k0_part12_skel k0_part13_skel k0_part14_skel k0_part15_skel k0_part16_skel k0_part17_skel k0_part18_skel k0_part19_skel k0_part20_skel k0_part21_skel
  simp only [semSignalWord, semWaitWord, Prog.lift, Prog.bind_op, Prog.bind_ret, Prog.pure_eq_ret, wp_deviceId]
  unfold bodyPre
  iintro ⟨⟨#Hf, HO, ⟨HcB, HaB⟩, HtB, Htk, Hen, Hld, Hx, ⟨%fs, Hst⟩, ⟨%fb, Hxb⟩, Ho⟩, Hk⟩
  -- the buffers, piece by piece
  ihave Hx' := (Entails.of_eq ((x_split c (xF m c)).trans (four _))) $$ Hx
  icases Hx' with ⟨Hx0, Hx1, Hx2, Hx3⟩
  ihave Hst' := (Entails.of_eq ((st_split c fs).trans (two _))) $$ Hst
  icases Hst' with ⟨Hs0, Hs1⟩
  ihave Hxb' := (Entails.of_eq ((xb_split c fb).trans (four _))) $$ Hxb
  icases Hxb' with ⟨Hb0, Hb1, Hb2, Hb3⟩
  ihave Ho' := (o_deal c) $$ Ho
  icases Ho' with ⟨Hoo, Hop⟩
  ihave Hoo' := (Entails.of_eq (four _)) $$ Hoo
  icases Hoo' with ⟨Hoo0, Hoo1, Hoo2, Hoo3⟩
  ihave Htk' := (Entails.of_eq (four _)) $$ Htk
  icases Htk' with ⟨Htk0, Htk1, Htk2, Htk3⟩
  ihave Hen' := (Entails.of_eq (four _)) $$ Hen
  icases Hen' with ⟨Hen0, Hen1, Hen2, Hen3⟩
  ihave Hld' := (Entails.of_eq (two _)) $$ Hld
  icases Hld' with ⟨Hv0, Hv1⟩
  -- the signals
  iapply (step_signals m K c _ _ _ (dev1_eq c) (dev2_eq c) (dev3_eq c)) $$ [HO HtB Hop]
  · isplitr; · iexact Hf
    isplitl [HO]; · iexact HO
    isplitl [HtB] <;> iassumption
  iintro HO
  -- chunk 0 loaded, chunk 1's load started, chunk 0 copied
  iapply (step_load m c 0 0 rfl rfl rfl) $$ [Hx0 Hs0 Hv0]
  · isplitl [Hx0]; · iexact Hx0
    isplitl [Hs0]; · iexists fs; iexact Hs0
    iexact Hv0
  iintro Hfl
  iapply (step_loaded m K c 0 0 4 rfl) $$ [HO Hfl]
  · isplitr; · iexact Hf
    isplitl [Hfl] <;> iassumption
  iintro ⟨Hs0, Hx0, Hv0, HO⟩
  iapply (step_load m c 1 1 rfl rfl rfl) $$ [Hx1 Hs1 Hv1]
  · isplitl [Hx1]; · iexact Hx1
    isplitl [Hs1]; · iexists fs; iexact Hs1
    iexact Hv1
  iintro Hfl
  iapply (step_copy m c 0 0 rfl rfl) $$ [Hs0 Hb0]
  · isplitl [Hs0]; · iexact Hs0
    iexists fb; iexact Hb0
  iintro ⟨Hs0, Hb0⟩
  -- the barrier: the peers' rows are ours to write
  iapply (step_barrier m K c 4) $$ [HO HcB HaB]
  · isplitr; · iexact Hf
    isplitl [HO]; · iexact HO
    isplitl [HcB] <;> iassumption
  iintro ⟨HO, HzB, Hrow⟩
  ihave Hrow' := ((o_received c).trans (Entails.of_eq (four _))) $$ Hrow
  icases Hrow' with ⟨Hrow0, Hrow1, Hrow2, Hrow3⟩
  -- chunk 0 sent
  iapply (step_chunk m K c _ _ _ 0 4 3 rfl rfl (dev4_eq c) (dev5_eq c) (dev6_eq c) (off2_eq c 0) (off2_eq c 1) (off2_eq c 2) (off3_eq c)
      (off1_eq c 0) (off4_eq c 0) rfl rfl rfl rfl rfl rfl) $$ [HO Hb0 Hrow0 Hoo0 Htk0]
  · isplitr; · iexact Hf
    isplitl [HO]; · iexact HO
    isplitl [Hb0]; · iexact Hb0
    isplitl [Hrow0]; · iexact Hrow0
    isplitl [Hoo0] <;> iassumption
  iintro ⟨Hcr0, HO, Hb0, Hoo0⟩
  -- chunk 1 landed, copied and sent
  iapply (step_loaded m K c 1 1 3 rfl) $$ [HO Hfl]
  · isplitr; · iexact Hf
    isplitl [Hfl] <;> iassumption
  iintro ⟨Hs1, Hx1, Hv1, HO⟩
  iapply (step_load m c 2 0 rfl rfl rfl) $$ [Hx2 Hs0 Hv0]
  · isplitl [Hx2]; · iexact Hx2
    isplitl [Hs0]; · iexists (stF m c 0); iexact Hs0
    iexact Hv0
  iintro Hfl
  iapply (step_copy m c 1 1 rfl rfl) $$ [Hs1 Hb1]
  · isplitl [Hs1]; · iexact Hs1
    iexists fb; iexact Hb1
  iintro ⟨Hs1, Hb1⟩
  iapply (step_chunk m K c _ _ _ 1 3 2 rfl rfl (dev7_eq c) (dev8_eq c) (dev9_eq c) (off5_eq c 0) (off5_eq c 1) (off5_eq c 2) (off6_eq c)
      (off1_eq c 1) (off4_eq c 1) rfl rfl rfl rfl rfl rfl) $$ [HO Hb1 Hrow1 Hoo1 Htk1]
  · isplitr; · iexact Hf
    isplitl [HO]; · iexact HO
    isplitl [Hb1]; · iexact Hb1
    isplitl [Hrow1]; · iexact Hrow1
    isplitl [Hoo1] <;> iassumption
  iintro ⟨Hcr1, HO, Hb1, Hoo1⟩
  -- chunk 2 landed, copied and sent
  iapply (step_loaded m K c 2 0 2 rfl) $$ [HO Hfl]
  · isplitr; · iexact Hf
    isplitl [Hfl] <;> iassumption
  iintro ⟨Hs0, Hx2, Hv0, HO⟩
  iapply (step_load m c 3 1 rfl rfl rfl) $$ [Hx3 Hs1 Hv1]
  · isplitl [Hx3]; · iexact Hx3
    isplitl [Hs1]; · iexists (stF m c 1); iexact Hs1
    iexact Hv1
  iintro Hfl
  iapply (step_copy m c 2 0 rfl rfl) $$ [Hs0 Hb2]
  · isplitl [Hs0]; · iexact Hs0
    iexists fb; iexact Hb2
  iintro ⟨Hs0, Hb2⟩
  iapply (step_chunk m K c _ _ _ 2 2 1 rfl rfl (dev10_eq c) (dev11_eq c) (dev12_eq c) (off7_eq c 0) (off7_eq c 1) (off7_eq c 2) (off8_eq c)
      (off1_eq c 2) (off4_eq c 2) rfl rfl rfl rfl rfl rfl) $$ [HO Hb2 Hrow2 Hoo2 Htk2]
  · isplitr; · iexact Hf
    isplitl [HO]; · iexact HO
    isplitl [Hb2]; · iexact Hb2
    isplitl [Hrow2]; · iexact Hrow2
    isplitl [Hoo2] <;> iassumption
  iintro ⟨Hcr2, HO, Hb2, Hoo2⟩
  -- chunk 3 landed, copied and sent
  iapply (step_loaded m K c 3 1 1 rfl) $$ [HO Hfl]
  · isplitr; · iexact Hf
    isplitl [Hfl] <;> iassumption
  iintro ⟨Hs1, Hx3, Hv1, HO⟩
  iapply (step_copy m c 3 1 rfl rfl) $$ [Hs1 Hb3]
  · isplitl [Hs1]; · iexact Hs1
    iexists fb; iexact Hb3
  iintro ⟨Hs1, Hb3⟩
  iapply (step_chunk m K c _ _ _ 3 1 0 rfl rfl (dev13_eq c) (dev14_eq c) (dev15_eq c) (off9_eq c 0) (off9_eq c 1) (off9_eq c 2) (off10_eq c)
      (off1_eq c 3) (off4_eq c 3) rfl rfl rfl rfl rfl rfl) $$ [HO Hb3 Hrow3 Hoo3 Htk3]
  · isplitr; · iexact Hf
    isplitl [HO]; · iexact HO
    isplitl [Hb3]; · iexact Hb3
    isplitl [Hrow3]; · iexact Hrow3
    isplitl [Hoo3] <;> iassumption
  iintro ⟨Hcr3, HO, Hb3, Hoo3⟩
  -- the waits, chunk by chunk
  ihave HO := (Entails.of_eq (congrArg (own (F := F) c) (show left c 0 = 0 from rfl))) $$ HO
  iapply (step_drain m K c 0 rfl rfl rfl rfl rfl rfl (credit_xb _ _) (credit_xb _ _) (credit_xb _ _) (credit_o _ _) (credit_o _ _) (credit_o _ _)) $$ [HO Hcr0 Hen0]
  · isplitr; · iexact Hf
    isplitl [HO]; · iexact HO
    isplitl [Hcr0] <;> iassumption
  iintro ⟨HO, Hen0⟩
  iapply (step_drain m K c 1 rfl rfl rfl rfl rfl rfl (credit_xb _ _) (credit_xb _ _) (credit_xb _ _) (credit_o _ _) (credit_o _ _) (credit_o _ _)) $$ [HO Hcr1 Hen1]
  · isplitr; · iexact Hf
    isplitl [HO]; · iexact HO
    isplitl [Hcr1] <;> iassumption
  iintro ⟨HO, Hen1⟩
  iapply (step_drain m K c 2 rfl rfl rfl rfl rfl rfl (credit_xb _ _) (credit_xb _ _) (credit_xb _ _) (credit_o _ _) (credit_o _ _) (credit_o _ _)) $$ [HO Hcr2 Hen2]
  · isplitr; · iexact Hf
    isplitl [HO]; · iexact HO
    isplitl [Hcr2] <;> iassumption
  iintro ⟨HO, Hen2⟩
  iapply (step_drain m K c 3 rfl rfl rfl rfl rfl rfl (credit_xb _ _) (credit_xb _ _) (credit_xb _ _) (credit_o _ _) (credit_o _ _) (credit_o _ _)) $$ [HO Hcr3 Hen3]
  · isplitr; · iexact Hf
    isplitl [HO]; · iexact HO
    isplitl [Hcr3] <;> iassumption
  iintro ⟨HO, Hen3⟩
  rw [show run c (Prog.ret PUnit.unit) Q = _ from wp_ret ..]
  imodintro
  iapply Hk
  unfold bodyPost
  ihave Hall := (gather m c) $$ [Hb0 Hb1 Hb2 Hb3 Hoo0 Hoo1 Hoo2 Hoo3 Hen0 Hen1 Hen2 Hen3]
  · rw [four, four, four]
    isplitl [Hb0 Hb1 Hb2 Hb3]
    · isplitl [Hb0]; · iexact Hb0
      isplitl [Hb1]; · iexact Hb1
      isplitl [Hb2] <;> iassumption
    isplitl [Hoo0 Hoo1 Hoo2 Hoo3]
    · isplitl [Hoo0]; · iexact Hoo0
      isplitl [Hoo1]; · iexact Hoo1
      isplitl [Hoo2] <;> iassumption
    isplitl [Hen0]; · iexact Hen0
    isplitl [Hen1]; · iexact Hen1
    isplitl [Hen2] <;> iassumption
  icases Hall with ⟨Hz, Hxb, Ho⟩
  isplitl [HO]; · iexact HO
  isplitl [HzB]; · iexact HzB
  isplitl [Hz]; · iexact Hz
  isplitl [Hv0 Hv1]
  · rw [two]
    isplitl [Hv0] <;> iassumption
  isplitl [Hx0 Hx1 Hx2 Hx3]
  · rw [x_split, four]
    isplitl [Hx0]; · iexact Hx0
    isplitl [Hx1]; · iexact Hx1
    isplitl [Hx2] <;> iassumption
  isplitl [Hs0 Hs1]
  · iapply (st_join c (stF m c 2) (stF m c 3))
    isplitl [Hs0] <;> iassumption
  isplitl [Hxb] <;> iassumption

end Cert.Exchange

end
-- ==== Proof.Mint.lean ====
/-
# Dealing out the launch

The exchange's tokens, positions and round states are made once for the machine and dealt to the devices; the semaphores
become the schedule's cells; each device receives the tokens of the duties it pays, and the credits of what its peers owe
it.
-/
module

public import proofs.«01_k».proof.Proof.Body
public import Idealize.ShloMosaic.Lib.Pipeline.Launch
public import Idealize.ShloMosaic.Lib.Pipeline.Kit

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Ck → ℕ)

/-! ## Families over the schedule's semaphores -/

section
omit [FloatOps F]

/-- The barrier, and the transfers' semaphores. -/
theorem ck_split (Φ : Ck → sProp 𝕄) : bigSep Finset.univ Φ = iprop(Φ none ∗ bigSep Finset.univ fun x => Φ (some x)) := by
  have h : (Finset.univ : Finset Ck) = insert none (Finset.univ.map Function.Embedding.some) := by
    ext k; cases k <;> simp
  rw [h, bigSep_insert (by simp), bigSep_map]
  rfl
/-- The transfers' semaphores, the send and the receive semaphore of each chunk and direction together. -/
theorem xfer_split (Φ : Bool × Fin 3 × Fin 4 → sProp 𝕄) :
    bigSep Finset.univ Φ = bigSep Finset.univ fun j : Fin 4 => bigSep Finset.univ fun i : Fin 3 => iprop(Φ (false, i, j) ∗ Φ (true, i, j)) := by
  have hb (Ψ : Bool → sProp 𝕄) : bigSep Finset.univ Ψ = iprop(Ψ false ∗ Ψ true) := bigSep_univ_eq_bigSepL [false, true] (by decide) (by decide) Ψ
  have hp (b : Bool) : (bigSep Finset.univ fun p : Fin 3 × Fin 4 => Φ (b, p)) = bigSep Finset.univ fun j : Fin 4 => bigSep Finset.univ fun i : Fin 3 => Φ (b, i, j) :=
    (bigSep_univ_prod fun p : Fin 3 × Fin 4 => Φ (b, p)).trans (swap fun i j => Φ (b, i, j))
  rw [bigSep_univ_prod, hb, hp, hp, ← bigSep_sep']
  exact bigSep_congr fun j _ => (bigSep_sep' _ _ _).symm
/-- A family over devices and directions, each device's entry moved to the peer it names. -/
theorem around (A : Fin 3 → Dev nD → sProp 𝕄) :
    (bigSep Finset.univ fun c => bigSep Finset.univ fun i => A i c) = bigSep Finset.univ fun c => bigSep Finset.univ fun i => A i (peer i c) := by
  rw [swap (fun c i => A i c), swap (fun c i => A i (peer i c))]
  exact bigSep_congr fun i _ => bigSep_univ_equiv (peerEquiv i) (A i)
/-- A persistent resource is available to every member of a family. -/
theorem share {T : Type} [Fintype T] [DecidableEq T] {R : sProp 𝕄} [BI.Persistent R] {Φ Ψ : T → sProp 𝕄} (h : ∀ t, iprop(R ∗ Φ t) ⊢ Ψ t) :
    iprop(R ∗ bigSep Finset.univ Φ) ⊢ bigSep Finset.univ Ψ := by
  have hR := BI.bigSep_of_persistent (Finset.univ : Finset T) R
  have h' : iprop((bigSep Finset.univ fun _ : T => R) ∗ bigSep Finset.univ Φ) ⊢ bigSep Finset.univ Ψ := by
    rw [← bigSep_sep']; exact mono h
  iintro ⟨HR, H⟩
  ihave HR' := hR $$ HR
  iapply h'
  isplitl [HR'] <;> iassumption

end

/-! ## The launch's tokens -/

theorem place_injective : Function.Injective fun ck : Dev nD × Ck => cell ck.1 ck.2 := fun a b h =>
  Prod.ext (cell_inj h).1 (cell_inj h).2

/-- The schedule's cells. -/
def places : Finset (GSem nD τ sig) := Finset.univ.map ⟨fun ck : Dev nD × Ck => cell ck.1 ck.2, place_injective⟩

/-- A device's duties as its own cells count them: three on the barrier, one on each transfer's semaphore. -/
def dutyOf (p : Dev nD × (Fin 3 ⊕ (Bool × Fin 3 × Fin 4))) : GSem nD τ sig × ℕ × Fin 3 := match p.2 with
  | .inl i => (barC p.1, 0, i)
  | .inr x => (cell p.1 (some x), 0, 0)

theorem dutyOf_injective : Function.Injective dutyOf := by
  rintro ⟨c, t⟩ ⟨c', t'⟩ h
  have hc := congrArg (fun y : GSem nD τ sig × ℕ × Fin 3 => y.1) h
  have hd := congrArg (fun y : GSem nD τ sig × ℕ × Fin 3 => y.2.2) h
  rcases t with i | x <;> rcases t' with i' | x'
  · obtain ⟨h1, -⟩ := cell_inj hc
    subst h1
    exact congrArg (fun i => (c, Sum.inl i)) hd
  · exact absurd (cell_inj hc).2 (by simp)
  · exact absurd (cell_inj hc).2 (by simp)
  · obtain ⟨h1, h2⟩ := cell_inj hc
    subst h1
    exact congrArg (fun x => (c, Sum.inr x)) (Option.some.inj h2)

def allDuties : Finset (GSem nD τ sig × ℕ × Fin 3) := Finset.univ.map ⟨dutyOf, dutyOf_injective⟩

/-- The launch's element of the ghost state. -/
def u₀ : UU := (initOf (Pipeline.cells cfgs cellOf_inj) (Pipeline.launchToks cfgs cellOf_inj), (initOf places allDuties, 1))

/-- The tokens of the duties on a device's own cells. -/
def ownToks (c : Dev nD) : sProp 𝕄 :=
  iprop((bigSep Finset.univ fun i : Fin 3 => dutyTok ER (barC c) 0 i)
    ∗ bigSep Finset.univ fun j : Fin 4 => bigSep Finset.univ fun i : Fin 3 => iprop(dutyTok ER (sndC c i j) 0 0 ∗ dutyTok ER (rcvC c i j) 0 0))

/-- What the launch's element deals device `c`. -/
def minted (c : Dev nD) : sProp 𝕄 :=
  iprop((bigSep Finset.univ fun k => roundState ER (sched m) (cell c k) 0) ∗ (bigSep Finset.univ fun k => atPos ER (cell c k) 0 ∅ 0)
    ∗ (bigSep Finset.univ fun k => reached ER (cell c k) 0) ∗ ownToks c)

section
omit [FloatOps F]

theorem mint : BI.own (ER (initOf places allDuties)) ⊢ (|==> bigSep Finset.univ (minted m) : sProp 𝕄) := by
  have hX (Φ : GSem nD τ sig → sProp 𝕄) : bigSep places Φ = bigSep Finset.univ fun c : Dev nD => bigSep Finset.univ fun k : Ck => Φ (cell c k) := by
    unfold places; rw [bigSep_map, bigSep_univ_prod]; rfl
  have hT : bigSep allDuties (fun x => (dutyTok ER x.1 x.2.1 x.2.2 : sProp 𝕄)) = bigSep Finset.univ fun c : Dev nD => ownToks c := by
    unfold allDuties
    rw [bigSep_map, bigSep_univ_prod]
    refine bigSep_congr fun c _ => ?_
    unfold ownToks
    rw [bigSep_univ_sum, ← xfer_split (fun x => dutyTok ER (cell c (some x)) 0 0)]
    rfl
  iintro H
  imod (Rounds.fund ER (sched m) places allDuties) $$ H with ⟨Hs, Hr, Ha, Ht⟩
  imodintro
  ihave Hs' := (Entails.of_eq (hX fun g => roundState ER (sched m) g 0)) $$ Hs
  ihave Ha' := (Entails.of_eq (hX fun g => atPos ER g 0 ∅ 0)) $$ Ha
  ihave Hr' := (Entails.of_eq (hX fun g => reached ER g 0)) $$ Hr
  ihave Ht' := (Entails.of_eq hT) $$ Ht
  unfold minted
  simp only [bigSep_sep']
  isplitl [Hs']; · iexact Hs'
  isplitl [Ha']; · iexact Ha'
  isplitl [Hr']; · iexact Hr'
  iexact Ht'

end

/-! ## The semaphores become cells -/

/-- The kernel's own semaphores: the two of the loads, and the transfers'. -/
def osem : Fin 2 ⊕ (Bool × Fin 3 × Fin 4) → SemLoc sig
  | .inl s => .dma (ldS s)
  | .inr x => csem (some x)

theorem ownSemFacts : Pipeline.OwnSemFacts cfg0.spec osem := by decide +kernel

section
omit [FloatOps F]

theorem ownSems_eq (c : Dev nD) : (Pipeline.ownSems0 (Ix := Unit) (Name := ℕ) (U := UU) (Lvl := ℕ) (Val := Elt F) (τ := τ) osem c : sProp 𝕄)
    = iprop((bigSep Finset.univ fun s : Fin 2 => semVal ((c : Thread nD τ), SemLoc.dma (ldS s)) 0) ∗ bigSep Finset.univ fun x => semVal (cell c (some x)) 0) := by
  unfold Pipeline.ownSems0
  rw [bigSep_univ_sum]
  rfl
theorem unscoped_eq (c : Dev nD) : (unscopedSems0 c : sProp 𝕄) = semVal (barC c) 0 := by
  unfold unscopedSems0; rw [bigSep_eq_bigSepL_of_eq [SemLoc.reg barS] (by decide) (by decide)]; rfl

/-- One device's semaphores at zero, with the cells' round states, are cells. -/
theorem make_cells (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k => iprop(∃ κ : ℕ, cellInv ER (sched m) κ (cell c k))) ∗ (bigSep Finset.univ fun k => atPos ER (cell c k) 0 ∅ 0)
          ∗ (bigSep Finset.univ fun k => reached ER (cell c k) 0) ∗ ownToks c ∗ bigSep Finset.univ fun s : Fin 2 => semVal ((c : Thread nD τ), SemLoc.dma (ldS s)) 0) := by
  have halloc : iprop((bigSep Finset.univ fun k : Ck => semVal (cell c k) 0) ∗ bigSep Finset.univ fun k : Ck => roundState ER (sched m) (cell c k) 0)
      ⊢ (|={Set.univ}=> bigSep Finset.univ fun k => iprop(∃ κ : ℕ, cellInv ER (sched m) κ (cell c k)) : sProp 𝕄) := by
    rw [← bigSep_sep']
    exact (bigSep_mono fun k _ => (Rounds.body_intro ER (sched m) (cell c k)).trans inv_alloc).trans (bigSep_fupd _ _)
  rw [ownSems_eq, unscoped_eq]
  unfold minted
  iintro ⟨⟨Hld, Hx⟩, Hb, Hs, Ha, Hr, Ht⟩
  imod halloc $$ [Hx Hb Hs] with Hi
  · isplitl [Hx Hb]
    · rw [ck_split]
      isplitl [Hb] <;> iassumption
    iexact Hs
  imodintro
  isplitl [Hi]; · iexact Hi
  isplitl [Ha]; · iexact Ha
  isplitl [Hr]; · iexact Hr
  isplitl [Ht] <;> iassumption

end

/-! ## Each device's part -/

/-- The cells' invariants and that every cell's round 0 is reached. -/
def records : sProp 𝕄 :=
  iprop((bigSep Finset.univ fun ck : Dev nD × Ck => cellInv ER (sched m) (K ck) (cell ck.1 ck.2))
    ∗ bigSep Finset.univ fun ck : Dev nD × Ck => reached ER (cell ck.1 ck.2) 0)

instance records_persistent : BI.Persistent (records m K) := by unfold records; infer_instance

/-- The tokens of the duties device `c` pays. -/
def payToks (c : Dev nD) : sProp 𝕄 :=
  iprop((bigSep Finset.univ fun i : Fin 3 => dutyTok ER (barC (peer i c)) 0 i)
    ∗ bigSep Finset.univ fun j : Fin 4 => bigSep Finset.univ fun i : Fin 3 => toks c i j)

/-- What device `c` alone holds: its positions, the tokens of the duties it pays, the loads' semaphores. -/
def alone (c : Dev nD) : sProp 𝕄 :=
  iprop((bigSep Finset.univ fun k => atPos ER (cell c k) 0 ∅ 0) ∗ payToks c ∗ bigSep Finset.univ fun s : Fin 2 => semVal ((c : Thread nD τ), SemLoc.dma (ldS s)) 0)

/-- What device `c` has of the exchange when it starts. -/
def dealt (c : Dev nD) : sProp 𝕄 := iprop(∃ K, records m K ∗ alone c)

section
omit [FloatOps F]

/-- The duties' tokens go to the devices that pay them. -/
theorem deal_toks : (bigSep Finset.univ fun c : Dev nD => (ownToks c : sProp 𝕄)) ⊢ bigSep Finset.univ fun c : Dev nD => payToks c := by
  refine Entails.of_eq ?_
  unfold ownToks payToks toks
  rw [bigSep_sep', bigSep_sep', around (fun i c => dutyTok ER (barC c) 0 i)]
  refine congrArg (fun P : sProp 𝕄 => iprop((bigSep Finset.univ fun c : Dev nD => bigSep Finset.univ fun i : Fin 3 => dutyTok ER (barC (peer i c)) 0 i) ∗ P)) ?_
  rw [swap (fun (c : Dev nD) (j : Fin 4) => bigSep Finset.univ fun i : Fin 3 => iprop(dutyTok ER (sndC c i j) 0 0 ∗ dutyTok ER (rcvC c i j) 0 0)),
    swap (fun (c : Dev nD) (j : Fin 4) => bigSep Finset.univ fun i : Fin 3 => iprop(dutyTok ER (sndC c i j) 0 0 ∗ dutyTok ER (rcvC (peer i c) i j) 0 0))]
  refine bigSep_congr fun j _ => ?_
  simp only [bigSep_sep']
  rw [around (fun i c => dutyTok ER (rcvC c i j) 0 0)]

theorem deal :
    (bigSep Finset.univ fun c : Dev nD => iprop((bigSep Finset.univ fun k => iprop(∃ κ : ℕ, cellInv ER (sched m) κ (cell c k))) ∗ (bigSep Finset.univ fun k => atPos ER (cell c k) 0 ∅ 0)
          ∗ (bigSep Finset.univ fun k => reached ER (cell c k) 0) ∗ ownToks c ∗ bigSep Finset.univ fun s : Fin 2 => semVal ((c : Thread nD τ), SemLoc.dma (ldS s)) 0) : sProp 𝕄)
      ⊢ bigSep Finset.univ (dealt m) := by
  have hrec (K : Dev nD × Ck → ℕ) : iprop(records m K ∗ bigSep Finset.univ fun c => alone c) ⊢ bigSep Finset.univ (dealt m) :=
    share fun c => by
      unfold dealt
      iintro H
      iexists K
      iexact H
  rw [bigSep_sep', bigSep_sep', bigSep_sep', bigSep_sep', ← bigSep_univ_prod (fun ck : Dev nD × Ck => iprop(∃ κ : ℕ, cellInv ER (sched m) κ (cell ck.1 ck.2))),
    ← bigSep_univ_prod (fun ck : Dev nD × Ck => (reached ER (cell ck.1 ck.2) 0 : sProp 𝕄))]
  iintro ⟨Hi, Ha, Hr, Ht, Hld⟩
  ihave HK := (BI.bigSep_exists_pi Finset.univ (fun (ck : Dev nD × Ck) (κ : ℕ) => (cellInv ER (sched m) κ (cell ck.1 ck.2) : sProp 𝕄))) $$ Hi
  icases HK with ⟨%K, Hi⟩
  ihave Ht' := (deal_toks (F := F)) $$ Ht
  iapply (hrec K)
  isplitl [Hi Hr]
  · unfold records
    isplitl [Hi]; · iexact Hi
    iexact Hr
  · unfold alone
    simp only [bigSep_sep']
    isplitl [Ha]; · iexact Ha
    isplitl [Ht'] <;> iassumption

/-- All devices' semaphores at once: what each device has when it starts. -/
theorem deal_all : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((mono fun c => make_cells m c).trans (bigSep_fupd _ _)).trans (BI.fupd_mono (deal m))

/-! ## Credits -/

theorem debt_eq (d : Dev nD) : debt d = (∑ j : Fin 4, ∑ i : Fin 3, tallyAt (rcvC (peer i d) i j) () N) + ∑ i : Fin 3, tallyAt (barC (peer i d)) () 1 := by
  have h0 := left_succ d 0
  have h1 := left_succ d 1
  have h2 := left_succ d 2
  have h3 := left_succ d 3
  have hl : left d 4 = ∑ j : Fin 4, sendDebt d j := by
    rw [Fin.sum_univ_four]
    have e0 : left d 4 = left d 3 + sendDebt d 0 := h0
    have e1 : left d 3 = left d 2 + sendDebt d 1 := h1
    have e2 : left d 2 = left d 1 + sendDebt d 2 := h2
    have e3 : left d 1 = 0 + sendDebt d 3 := h3
    rw [e0, e1, e2, e3]
    abel
  unfold debt
  rw [hl]
  rfl

theorem three_units (g : GSem nD τ sig) : (∑ _i : Fin 3, tallyAt g () 1 : CellTallies nD τ sig Unit) = tallyAt g () 3 := by
  rw [Fin.sum_univ_three, tallyAt_add, tallyAt_add]

/-- What the peers owe device `c` at launch: three units on its barrier, one block on each receive semaphore. -/
theorem credits (c : Dev nD) : (Pipeline.launchCred debt c : sProp 𝕄)
    ⊢ iprop(cred (tallyAt (barC c) () 3) ∗ bigSep Finset.univ fun j : Fin 4 => bigSep Finset.univ fun i : Fin 3 => cred (tallyAt (rcvC c i j) () N)) := by
  have h1 (i : Fin 3) (k : Ck) (n : ℕ) : (Pipeline.launchCred (fun d => tallyAt (cell (peer i d) k) () n) c : sProp 𝕄) ⊢ cred (tallyAt (cell c k) () n) :=
    Pipeline.launchCred_tallyAt (csem k) (peer i) (peer i.rev) (peer_peer_rev i) (peer_rev_peer i) () n c
  have hb : (bigSep Finset.univ fun i : Fin 3 => Pipeline.launchCred (fun d => tallyAt (barC (peer i d)) () 1) c : sProp 𝕄) ⊢ cred (tallyAt (barC c) () 3) := by
    rw [← three_units, Pipeline.cred_finsetSum]
    exact mono fun i => h1 i none 1
  have hr : (bigSep Finset.univ fun j : Fin 4 => bigSep Finset.univ fun i : Fin 3 => Pipeline.launchCred (fun d => tallyAt (rcvC (peer i d) i j) () N) c : sProp 𝕄)
      ⊢ bigSep Finset.univ fun j : Fin 4 => bigSep Finset.univ fun i : Fin 3 => cred (tallyAt (rcvC c i j) () N) :=
    mono fun j => mono fun i => h1 i (some (true, i, j)) N
  have hsum : (Pipeline.launchCred debt c : sProp 𝕄) = iprop((bigSep Finset.univ fun j : Fin 4 => bigSep Finset.univ fun i : Fin 3 => Pipeline.launchCred (fun d => tallyAt (rcvC (peer i d) i j) () N) c)
      ∗ bigSep Finset.univ fun i : Fin 3 => Pipeline.launchCred (fun d => tallyAt (barC (peer i d)) () 1) c) := by
    rw [show debt = fun d => (∑ j : Fin 4, ∑ i : Fin 3, tallyAt (rcvC (peer i d) i j) () N) + ∑ i : Fin 3, tallyAt (barC (peer i d)) () 1 from funext debt_eq,
      Pipeline.launchCred_add (fun d => ∑ j : Fin 4, ∑ i : Fin 3, tallyAt (rcvC (peer i d) i j) () N),
      Pipeline.launchCred_sum Finset.univ (fun (j : Fin 4) d => ∑ i : Fin 3, tallyAt (rcvC (peer i d) i j) () N),
      Pipeline.launchCred_sum Finset.univ (fun (i : Fin 3) d => tallyAt (barC (peer i d)) () 1)]
    refine congrArg (fun P : sProp 𝕄 => iprop(P ∗ bigSep Finset.univ fun i : Fin 3 => Pipeline.launchCred (fun d => tallyAt (barC (peer i d)) () 1) c)) ?_
    exact bigSep_congr fun j _ => Pipeline.launchCred_sum Finset.univ (fun (i : Fin 3) d => tallyAt (rcvC (peer i d) i j) () N) c
  rw [hsum]
  iintro ⟨Hr, Hb⟩
  isplitl [Hb]
  · iapply hb $$ Hb
  iapply hr $$ Hr

end

end Cert.Exchange

end
-- ==== Proof.Launch.lean ====
/-
# The run

The body's obligation, what each device starts and ends with, and the kernel's run on the whole machine: it terminates with
every semaphore at zero, `x` unchanged and each device's result the exchanged one.
-/
module

public import proofs.«01_k».proof.Proof.Mint
public import proofs.«01_k».proof.Proof.Gen.Kernel.Launch

@[expose] public section

noncomputable section

namespace Cert.Exchange

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts and ends with -/

/-- The exchange's part of what device `c` starts with, and its `x`. -/
def start (c : Dev nD) : sProp 𝕄 :=
  iprop(∃ K, facts m K ∗ (cred (tallyAt (barC c) () 3) ∗ atPos ER (barC c) 0 ∅ 0)
    ∗ payToks c ∗ (bigSep Finset.univ fun j : Fin 4 => bigSep Finset.univ fun i : Fin 3 => ends c i j)
    ∗ (bigSep Finset.univ fun s : Fin 2 => semVal ((c : Thread nD τ), SemLoc.dma (ldS s)) 0) ∗ xPt c Finset.univ (xF m c))

/-- With the scratch buffers. -/
def Φ₀ (c : Dev nD) : sProp 𝕄 := iprop(start m c ∗ (∃ f, stPt c Finset.univ f) ∗ ∃ f, xbPt c Finset.univ f)

/-- At the end: the semaphores at zero, `x` and the scratch buffers. -/
def Φ₁ (c : Dev nD) : sProp 𝕄 :=
  iprop(semVal (barC c) 0 ∗ (bigSep Finset.univ fun j : Fin 4 => bigSep Finset.univ fun i : Fin 3 => iprop(semVal (sndC c i j) 0 ∗ semVal (rcvC c i j) 0))
    ∗ (bigSep Finset.univ fun s : Fin 2 => semVal ((c : Thread nD τ), SemLoc.dma (ldS s)) 0) ∗ xPt c Finset.univ (xF m c)
    ∗ (∃ f, stPt c Finset.univ f) ∗ ∃ f, xbPt c Finset.univ f)

/-- The kernel's one window is its result; the body leaves the exchanged contents in it. -/
def dats (_ : Fin 1) (c : Dev nD) : Dat τ (Elt F) Unit ℕ UU ℕ cfg0 c where
  A w := m ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => debt c
    | ⟨_ + 1, _⟩ => 0

/-! ## The body's obligation -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer of the result, holding `X`. -/
def stg (c : Dev nD) (X : S8192x512.Idx → Elt F .bf16) : sProp 𝕄 := iprop(∃ f : S8192x512.Idx → Elt F .bf16, ⌜f = X⌝ ∗ oPt c Finset.univ f)

set_option maxRecDepth 8000 in
def pre (c : Dev nD) : sProp 𝕄 := iprop(Φ₀ m c ∗ (dats m 0 c).owesAt () t0_0.castSucc ∗ ∃ d, stg c ((dats m 0 c).before (0 : Fin 1) t0_0 d))
set_option maxRecDepth 8000 in
def post (c : Dev nD) : sProp 𝕄 := iprop(Φ₁ m c ∗ (dats m 0 c).owesAt () t0_0.succ ∗ stg c (outF m c))

set_option maxRecDepth 8000 in
theorem pre_body (K : Dev nD × Ck → ℕ) (c : Dev nD) : iprop((cred (tallyAt (barC c) () 3) ∗ atPos ER (barC c) 0 ∅ 0)
    ∗ payToks c ∗ (bigSep Finset.univ fun j : Fin 4 => bigSep Finset.univ fun i : Fin 3 => ends c i j)
    ∗ (bigSep Finset.univ fun s : Fin 2 => semVal ((c : Thread nD τ), SemLoc.dma (ldS s)) 0) ∗ xPt c Finset.univ (xF m c)
    ∗ (∃ f, stPt c Finset.univ f) ∗ (∃ f, xbPt c Finset.univ f) ∗ (∃ f, oPt c Finset.univ f) ∗ own c (debt c)) ⊢ bodyPre m c := by
  unfold bodyPre payToks
  iintro ⟨Hb, ⟨Ht, Hk⟩, He, Hl, Hx, Hs, Hxb, Ho, HO⟩
  isplitl [HO]; · iexact HO
  isplitl [Hb]; · iexact Hb
  isplitl [Ht]; · iexact Ht
  isplitl [Hk]; · iexact Hk
  isplitl [He]; · iexact He
  isplitl [Hl]; · iexact Hl
  isplitl [Hx]; · iexact Hx
  isplitl [Hs]; · iexact Hs
  isplitl [Hxb] <;> iassumption

set_option maxRecDepth 8000 in
theorem body_post (c : Dev nD) : bodyPost m c ⊢ post m c := by
  unfold bodyPost post Φ₁ Dat.owesAt Pipeline.owesWithin own stg
  rw [show (dats m 0 c).owed t0_0.succ = 0 from rfl]
  iintro ⟨⟨%W, HO⟩, Hb, Hz, Hl, Hx, Hs, Hxb, Ho⟩
  isplitl [Hb Hz Hl Hx Hs Hxb]
  · isplitl [Hb]; · iexact Hb
    isplitl [Hz]; · iexact Hz
    isplitl [Hl]; · iexact Hl
    isplitl [Hx]; · iexact Hx
    isplitl [Hs]; · iexact Hs
    iexists (xF m c)
    iexact Hxb
  isplitl [HO]
  · iexists W
    isplitr; · ipureintro; exact fun _ _ => Or.inl trivial
    iexact HO
  iexists (outF m c)
  isplitr; · ipureintro; rfl
  iexact Ho

set_option maxRecDepth 8000 in
/-- The body meets the pipeline's obligation. -/
theorem obligation (c : Dev nD) : BodyObligation (dats (F := F) m 0 c) (defs₀ (F := F)) 𝒱₀ () Set.univ := fun t => by
  rw [fin_N0 t]
  rw [bigSep_W0, bigSep_W0]
  simp only [owns_whole]
  show pre m c ⊢ run c (cc0_body xM (Memref.isWhole_whole _) oM (Memref.isWhole_whole _) stM (Memref.isWhole_whole _) xbM (Memref.isWhole_whole _)
          cc0_scratch2 cc0_scratch3 cc0_scratch4) (fun _ => post m c)
  unfold pre Φ₀ start Dat.owesAt Pipeline.owesWithin stg
  rw [show (dats m 0 c).owed t0_0.castSucc = debt c from rfl]
  iintro ⟨⟨⟨%K, Hf, Hb, Ht, He, Hl, Hx⟩, Hs, Hxb⟩, ⟨%W, -, HO⟩, ⟨%d, %f, -, Ho⟩⟩
  iapply (sound_body m K c fun _ => post m c)
  isplitl
  · isplitl [Hf]; · iexact Hf
    iapply (pre_body m K c)
    isplitl [Hb]; · iexact Hb
    isplitl [Ht]; · iexact Ht
    isplitl [He]; · iexact He
    isplitl [Hl]; · iexact Hl
    isplitl [Hx]; · iexact Hx
    isplitl [Hs]; · iexact Hs
    isplitl [Hxb]; · iexact Hxb
    isplitl [Ho]; · iexists f; iexact Ho
    unfold own
    iexists W
    iexact HO
  · iintro H
    iapply (body_post m c) $$ H

/-! ## The launch's side conditions -/

theorem share_eq (c : Dev nD) (w : Fin cfg0.W) : (dats m 0 c).share w = fullShare := by unfold Dat.share; split <;> rfl

set_option maxRecDepth 8000 in
theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ dealt m c)
      ⊢ |={Set.univ}=> iprop(start m c ∗ emp) := by
  have hat : (bigSep Finset.univ fun k : Ck => (atPos ER (cell c k) 0 ∅ 0 : sProp 𝕄))
      = iprop(atPos ER (barC c) 0 ∅ 0 ∗ bigSep Finset.univ fun j : Fin 4 => bigSep Finset.univ fun i : Fin 3 => iprop(atPos ER (sndC c i j) 0 ∅ 0 ∗ atPos ER (rcvC c i j) 0 ∅ 0)) := by
    rw [ck_split, xfer_split]
  have hends : iprop((bigSep Finset.univ fun j : Fin 4 => bigSep Finset.univ fun i : Fin 3 => iprop(atPos ER (sndC c i j) 0 ∅ 0 ∗ atPos ER (rcvC c i j) 0 ∅ 0))
      ∗ bigSep Finset.univ fun j : Fin 4 => bigSep Finset.univ fun i : Fin 3 => cred (tallyAt (rcvC c i j) () N))
      ⊢ (bigSep Finset.univ fun j : Fin 4 => bigSep Finset.univ fun i : Fin 3 => ends c i j : sProp 𝕄) := by
    unfold ends
    simp only [bigSep_sep']
    iintro ⟨⟨H1, H2⟩, H3⟩
    isplitl [H1]; · iexact H1
    isplitl [H2] <;> iassumption
  rw [Pipeline.unscopedRestP_none, unscopedRest0_eq]
  unfold dealt alone
  iintro ⟨Hx, Hlev, Hcr, -, ⟨%K, Hr, Ha, Ht, Hl⟩⟩
  ihave Hc := (credits (F := F) c) $$ Hcr
  icases Hc with ⟨Hb, Hc⟩
  ihave Ha' := (Entails.of_eq hat) $$ Ha
  icases Ha' with ⟨Hab, Hax⟩
  ihave He := hends $$ [Hax Hc]
  · isplitl [Hax] <;> iassumption
  imodintro
  unfold start
  isplitl
  · iexists K
    isplitl [Hr Hlev]
    · unfold records facts levs
      icases Hr with ⟨H1, H2⟩
      isplitl [H1]; · iexact H1
      isplitl [H2] <;> iassumption
    isplitl [Hb Hab]
    · isplitl [Hb] <;> iassumption
    isplitl [Ht]; · iexact Ht
    isplitl [He]; · iexact He
    isplitl [Hl]; · iexact Hl
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H1, H2⟩
  isplitl [Hs]; · iexact Hs
  isplitl [H1]
  · iexact H1
  iexact H2

/-- What is read at the end: the barrier's semaphore and `x`. -/
def kept (c : Dev nD) : sProp 𝕄 := iprop(unscopedSems0 c ∗ xPt c Finset.univ (xF m c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems_eq, xfer_split]
  unfold Φ₁ kept
  rw [unscoped_eq]
  iintro ⟨Hb, Hz, Hl, Hx, Hs, Hxb⟩
  isplitl [Hb Hx]
  · isplitl [Hb] <;> iassumption
  isplitl [Hl Hz]
  · isplitl [Hl] <;> iassumption
  isplitl [Hs]
  · iexact Hs
  iexact Hxb

theorem wait_stage (c : Dev nD) (q : DmaSem sig) (hq : ∀ k, csem k ≠ .dma q) (O : CellTallies nD τ sig Unit) (hO : O = debt c ∨ O = 0) :
    (levAts L lv : sProp 𝕄) ⊢ MayWait (c : Thread nD τ) (.dma q) () O := by
  rcases hO with rfl | rfl
  · exact mayWait_debt (F := F) c (.dma q) (lv_of_not c _ hq)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    wait_stage c _ (by fin_cases w <;> fin_cases s <;> decide +kernel) _ (by
      rcases t with ⟨_ | _, ht⟩
      · exact Or.inl rfl
      · exact Or.inr rfl)

/-- The final memory read: the unscoped semaphores at zero, `x` unchanged. -/
theorem kept_read (c : Dev nD) (s' : Phys nD τ sig (Elt F)) :
    iprop(kept m c ∗ emp ∗ SI s') ⊢ |={Set.univ}=> iprop(⌜(∀ sm : SemLoc sig, sm.isScoped .tc = false → s'.mem.sem ((c.tc : Thread nD τ), sm) = 0)
      ∧ s'.mem.mem ((c.tc : Thread nD τ).loc main_arg0) = m ((c.tc : Thread nD τ).loc main_arg0)⌝ ∗ SI s') := by
  have hx : iprop(xPt c Finset.univ (xF m c) ∗ SI s') ⊢ iprop(⌜s'.mem.mem ((c.tc : Thread nD τ).loc main_arg0) = m ((c.tc : Thread nD τ).loc main_arg0)⌝ ∗ SI s') := by
    iintro ⟨Hx, HSI⟩
    icombine HSI Hx gives %h
    isplitr
    · ipureintro
      exact Buf.eq_of_forall_mem_univ h
    · iexact HSI
  unfold kept
  iintro ⟨⟨Hu, Hx⟩, -, HSI⟩
  ihave H := hx $$ [Hx HSI]
  · isplitl [Hx] <;> iassumption
  icases H with ⟨%h, HSI⟩
  ihave %h' := (tcUnscoped_read c s') $$ [Hu HSI]
  · isplitl [Hu] <;> iassumption
  imodintro
  isplitr
  · ipureintro
    exact ⟨h', h⟩
  · iexact HSI

/-! ## The run -/

theorem own_u₀ : (ownU u₀ : sProp 𝕄)
    ⊢ |={Set.univ}=> iprop(BI.own (EP (initOf (Pipeline.cells cfgs cellOf_inj) (Pipeline.launchToks cfgs cellOf_inj))) ∗ bigSep Finset.univ (minted m)) := by
  have hsplit : (ownU u₀ : sProp 𝕄) ⊢ iprop(BI.own (EP (initOf (Pipeline.cells cfgs cellOf_inj) (Pipeline.launchToks cfgs cellOf_inj))) ∗ BI.own (ER (initOf places allDuties))) :=
    BI.own_op_elim ((uEmb (nD := nD) (sig := sig) (Ix := Unit) (Val := Elt F) (Name := ℕ) (U := UU) (Lvl := ℕ)).toEmb.op_of_mem
      (Prod.mk_mem_op (URA.mem_op_one _) (URA.mem_one_op (initOf places allDuties, (1 : Counters)))))
  iintro H
  ihave H' := hsplit $$ H
  icases H' with ⟨HP, HX⟩
  imod (mint m) $$ HX with HG
  imodintro
  isplitl [HP] <;> iassumption

/-- A device's result array when the kernel has run. -/
def final (c : Dev nD) : Buf (Elt F) ((cfg0.win (0 : Fin 1)).arr.view.loc (c : Thread nD τ)) := (dats m 0 c).arrAt (0 : Fin 1) cfg0.N

set_option maxRecDepth 8000 in
/-- From any memory with every semaphore at zero, the kernel terminates on the whole machine; at the end every semaphore is
    at zero, every device's `x` is unchanged and its result array is `final`. -/
theorem run_main : θ_run defs (onTc (τ := τ) (main (F := F))) ⟨m, fun _ => 0, ρ⟩
    (fun r => (∀ c : Dev nD, r.2.mem ((cfg0.win (0 : Fin 1)).arr.view.loc (c : Thread nD τ)) = final m c
      ∧ r.2.mem ((c.tc : Thread nD τ).loc main_arg0) = m ((c.tc : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (obligation m c).loose) (hne := block_pos0) (harr := arr_whole0) (hstage := stage_whole0) (hshare := share_eq m)
    (hdistinct := winFacts0.arr_inj)
    (O₀ := debt) (howed₀ := fun _ => rfl) (howedN := fun _ => rfl)
    (L := L) (lv := lv) (hL := L_of_ne) (hwaits := waits m)
    (G := minted m) (G' := dealt m) (u₀ := u₀) (hu₀ := own_u₀ m) (hglob := deal_all m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c.tc : Thread nD τ).loc main_arg0) = m ((c.tc : Thread nD τ).loc main_arg0))
    (hY := kept_read m)
    (hQ := fun _ h hs => ⟨fun c => ⟨(h c).1 (0 : Fin 1), (h c).2.2.2⟩, sem_eq_zero hs fun c => (h c).2.2.1⟩)

/-- The result array is written back whole: it ends holding the exchanged contents. -/
theorem final_eq (c : Dev nD) : (win0_0.blk (0 : Fin 1)).view.read (Elt F) (final m c) = outF m c := by
  unfold final
  rw [show cfg0.N = ((0 : Fin 1) : Fin cfg0.N).val + 1 from rfl, (dats m 0 c).arrAt_succ (0 : Fin 1) (0 : Fin 1)]
  rw [show (cfg0.win (0 : Fin 1)).flush (0 : Fin 1) = true from by decide, if_pos rfl]
  exact View.read_write_univ _ _

end Cert.Exchange

end
-- ==== Proof.Value.lean ====
/-
# The value

The exchanged contents are each device's part of the whole array: a device starts with the rows its coordinate on the
exchange's axis names and ends with the columns it names.
-/
module

public import proofs.«01_k».proof.Proof.Launch
public import Idealize.ShloMosaic.Lib.Layout

@[expose] public section

noncomputable section

namespace Cert.Exchange

open Cert.Kernel Cert.Kernel.Gen

open Idealize.ShloMosaic Idealize.ShloMosaic.ValueIdx
open Idealize.ShloMosaic.TcCoe
open Idealize.SL.Sem

variable {F : FTy → Type} [FloatOps F]

variable (m : (ℓ : Loc nD τ sig) → Buf (Elt F) ℓ) (ρ : Dev nD → PrngReg)

/-! ## The result array -/

/-- Reading the window's one block reads the whole array. -/
theorem final_out (c : Dev nD) : final m c = outF m c := by
  have hz : (fun a => (win0_0.index (0 : Fin 1)) a * main_v1.ty.shape.size a) = fun _ => 0 := funext fun a => by fin_cases a <;> decide
  exact (Memref.read_access_unit_zero (Elt F) main_v1 hz (fun a => by fin_cases a <;> decide) (final m c)).symm.trans (final_eq m c)

/-- The kernel's run, its result read: every device ends with the exchanged contents. -/
theorem run_out : θ_run defs (onTc (τ := τ) (main (F := F))) ⟨m, fun _ => 0, ρ⟩
    (fun r => (∀ c : Dev nD, r.2.mem ((c.tc : Thread nD τ).loc main_v1) = outF m c
      ∧ r.2.mem ((c.tc : Thread nD τ).loc main_arg0) = m ((c.tc : Thread nD τ).loc main_arg0)) ∧ r.2.sem = fun _ => 0) :=
  (θ_run defs _ _).mono (fun _ h => ⟨fun c => ⟨(h.1 c).1.trans (final_out m c), (h.1 c).2⟩, h.2⟩) (run_main m ρ)

/-! ## Parts of the whole array -/

/-- The rows device `c` holds of the whole array. -/
abbrev rowPart {α : Type} (c : Dev nD) (w : (⟨2, ![8192, 2048]⟩ : Shape).Idx → α) : S2048x2048.Idx → α :=
  Layout.blockN ⟨2, ![2048, 2048]⟩ ⟨2, ![8192, 2048]⟩ (Layout.meshBlock [2, 4, 4] ![[1], []] c) w
/-- The columns device `c` holds of it. -/
abbrev colPart {α : Type} (c : Dev nD) (w : (⟨2, ![8192, 2048]⟩ : Shape).Idx → α) : S8192x512.Idx → α :=
  Layout.blockN ⟨2, ![8192, 512]⟩ ⟨2, ![8192, 2048]⟩ (Layout.meshBlock [2, 4, 4] ![[], [1]] c) w

theorem part_coord : ∀ c : Dev nD, Layout.meshLin [2, 4, 4] c.val [1] = (yOf c).val := by decide +kernel

/-- Where an element of a block lies in the whole array. -/
theorem block_at {a b p q : ℕ} {k : Fin 2 → ℕ} (h : Layout.TilesN ⟨2, ![a, b]⟩ ⟨2, ![p, q]⟩ k) (j : (t : Fin 2) → Fin (k t)) (i : (⟨2, ![a, b]⟩ : Shape).Idx) :
    (h.idx j i (0 : Fin 2)).val = (j 0).val * a + (i (0 : Fin 2)).val ∧ (h.idx j i (1 : Fin 2)).val = (j 1).val * b + (i (1 : Fin 2)).val := ⟨rfl, rfl⟩

theorem rowPart_at {α : Type} (c : Dev nD) (w : (⟨2, ![8192, 2048]⟩ : Shape).Idx → α) (i : S2048x2048.Idx) (t : (⟨2, ![8192, 2048]⟩ : Shape).Idx)
    (h0 : (t 0).val = (yOf c).val * 2048 + (i 0).val) (h1 : (t 1).val = (i 1).val) : rowPart c w i = w t := by
  refine congrArg w (ix2_ext ?_ ?_)
  · rw [(block_at _ _ _).1, h0, ← part_coord]; rfl
  · rw [(block_at _ _ _).2, h1, Layout.meshBlock_val]
    show 0 * 2048 + _ = _
    rw [Nat.zero_mul, Nat.zero_add]

theorem colPart_at {α : Type} (c : Dev nD) (w : (⟨2, ![8192, 2048]⟩ : Shape).Idx → α) (i : S8192x512.Idx) (t : (⟨2, ![8192, 2048]⟩ : Shape).Idx)
    (h0 : (t 0).val = (i 0).val) (h1 : (t 1).val = (yOf c).val * 512 + (i 1).val) : colPart c w i = w t := by
  refine congrArg w (ix2_ext ?_ ?_)
  · rw [(block_at _ _ _).1, h0, Layout.meshBlock_val]
    show 0 * 8192 + _ = _
    rw [Nat.zero_mul, Nat.zero_add]
  · rw [(block_at _ _ _).2, h1, ← part_coord]; rfl

omit [FloatOps F] in
/-- When the devices start with the rows of an array they end with its columns. -/
theorem out_part (w : (⟨2, ![8192, 2048]⟩ : Shape).Idx → Elt F .bf16) (h : ∀ c : Dev nD, xF m c = rowPart c w) (c : Dev nD) : outF m c = colPart c w := by
  funext i
  unfold outF
  rw [h]
  have hi1 := idx2_lt1 i
  have hy := (yOf c).isLt
  let t : (⟨2, ![8192, 2048]⟩ : Shape).Idx := ix2 ⟨(i 0).val, idx2_lt0 i⟩ ⟨512 * (yOf c).val + (i 1).val, by omega⟩
  refine (rowPart_at _ w _ t ?_ rfl).trans (colPart_at c w i t rfl ?_).symm
  · rw [yOf_atY]
    exact (Nat.div_add_mod' (i 0).val 2048).symm
  · exact congrArg (· + (i 1).val) (Nat.mul_comm _ _)

end Cert.Exchange

end
-- ==== Proof.Ideal.lean ====
/-
  The run of the idealized kernel and the run of the reference.

  No operation of this kernel is rewritten by the idealization, so the idealized program is the same text as the
  program: each function of the one is the function of the other by definition, and what `Value.lean` proves of every
  float instance is read here of the idealized program. The reference returns its argument, on one device.
-/
module

public import proofs.«01_k».proof.Proof.Value
public import proofs.«01_k».proof.Proof.Gen.KernelIdeal
public import proofs.«01_k».proof.Proof.Gen.ReferenceIdeal
public import Idealize.ShloMosaic.Lib.StableHlo.Run
public import Idealize.ShloMosaic.Lib.Quiescent

@[expose] public section

noncomputable section

namespace Cert.Exchange

open Idealize.ShloMosaic Idealize.ShloMosaic.TcCoe Idealize.SL.Sem

variable {F : FTy → Type} [FloatOps F]

/-! ## The idealized kernel -/

set_option maxRecDepth 10000 in
/-- The idealized program's kernel body is the program's. -/
theorem body_same : @Cert.KernelIdeal.cc0_body F _ = @Cert.Kernel.cc0_body F _ := rfl

set_option maxRecDepth 10000 in
/-- The idealized program's table of bodies is the program's: at its one label both call the one body on the same
    buffers and semaphores. -/
theorem bodies_same : @Cert.KernelIdeal.defs₀ F _ = @Cert.Kernel.defs₀ F _ := by
  unfold Cert.KernelIdeal.defs₀ Cert.Kernel.defs₀
  congr 1
  funext l a
  match l, a with
  | 0, (t, s) => rfl

/-- With the pipeline around the body, still the same table. -/
theorem defs_same : @Cert.KernelIdeal.defs F _ = @Cert.Kernel.defs F _ :=
  congrArg (Pipeline.defs (Cert.Kernel.pcfgs (F := F))) bodies_same

/-- The idealized program, from any memory with zero counters: every weakly fair execution terminates, each device's
    result is the exchange's, its argument is unchanged, and every semaphore counter is zero. -/
theorem run_out_ideal
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r =>
        (∀ c : Dev Cert.KernelIdeal.nD,
          r.2.mem ((c.tc : Thread Cert.KernelIdeal.nD Cert.KernelIdeal.τ).loc Cert.KernelIdeal.main_v1) = outF m c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))
        ∧ r.2.sem = fun _ => 0) := by
  rw [defs_same]
  exact run_out m ρ

/-! ## The reference -/

/-- The reference, on its one device, from any memory with zero counters: every weakly fair execution terminates with
    the argument buffer, which is also the result, holding what it held, and every semaphore counter zero (the
    reference declares none). -/
theorem run_reference
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ (fun r =>
        (∀ c : Dev Cert.ReferenceIdeal.nD,
          r.2.mem ((c.tc : Thread Cert.ReferenceIdeal.nD Cert.ReferenceIdeal.τ).loc Cert.ReferenceIdeal.main_arg0)
              = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => [])
      (fun _ => rfl) (fun _ => trivial) m ρ)

end Cert.Exchange

end
-- ==== Proof.lean ====
/-
# The certificate's claims

The three frames, the idealization and the value claim, each from the runs proved in the modules: the program's in `Value`,
the idealized program's and the reference's in `Ideal`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ideal
public import Idealize.ShloMosaic.Adequacy
public import Idealize.ShloMosaic.Init

@[expose] public section

noncomputable section

namespace Cert.Proof

open Idealize.ShloMosaic Idealize.SL.Sem Cert.Kernel

open Cert.Exchange (run_out run_out_ideal run_reference out_part)

/-- The program runs on the 32 devices at the bit-exact instance, its argument unchanged and every counter zero. -/
theorem frame_p : Cert.quiescent_Kernel := by
  intro m ρ _
  exact (θ_run Cert.Kernel.defs _ _).mono (fun _ h => ⟨fun c => (h.1 c).2, h.2⟩) (run_out (F := Bits) m ρ)

/-- The idealized program runs likewise. -/
theorem frame_pi : Cert.quiescent_KernelIdeal := by
  intro m ρ _
  exact (θ_run Cert.KernelIdeal.defs _ _).mono (fun _ h => ⟨fun c => (h.1 c).2, h.2⟩)
    (run_out_ideal (F := Ideal) m ρ)

/-- The reference runs on its one device, its argument unchanged and every counter zero. -/
theorem frame_ri : Cert.quiescent_ReferenceIdeal := by
  intro m ρ _
  exact run_reference (F := Ideal) m ρ

/-- The result of the idealized program is the reference's: when each device holds its rows of the whole array, each
    device ends holding its columns of the whole array the reference returns. -/
theorem algebraic : Cert.algebraic_KernelIdeal_ReferenceIdeal := by
  intro m ρ m' ρ' _ hrows
  refine ⟨m' _, ?_, ?_⟩
  · exact (θ_run Cert.KernelIdeal.defs _ _).mono
      (fun _ h c => ⟨(h.1 c).1.trans (out_part m _ hrows c), (h.1 c).2⟩) (run_out_ideal (F := Ideal) m ρ)
  · exact (θ_run Cert.ReferenceIdeal.defs _ _).mono (fun _ h => ⟨h.1 0, h.1 0⟩)
      (run_reference (F := Ideal) m' ρ')

/-- Every claim of the certificate. -/
theorem claim : Cert.Claim :=
  ⟨Cert.Kernel.Gen.facts, Cert.KernelIdeal.Gen.facts, Cert.ReferenceIdeal.Gen.facts,
    frame_p, frame_pi, frame_ri, trivial, algebraic⟩

end Cert.Proof

end
